-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 1]⟩ ⟨2, ![2048, 1]⟩ (Layout.meshBlock [2, 4, 4] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 1024, 2048]⟩ ⟨3, ![4, 1024, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 2048, 1024]⟩ ⟨3, ![4, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S1024x1024 : Shape := ⟨2, ![1024, 1024]⟩
abbrev S1024x1 : Shape := ⟨2, ![1024, 1]⟩
abbrev S2x1024x2048 : Shape := ⟨3, ![2, 1024, 2048]⟩
abbrev S2x2048x1024 : Shape := ⟨3, ![2, 2048, 1024]⟩
abbrev S4 : Shape := ⟨1, ![4]⟩
abbrev S1x4 : Shape := ⟨2, ![1, 4]⟩
abbrev S1024x4 : Shape := ⟨2, ![1024, 4]⟩
abbrev S_ : Shape := ⟨0, ![]⟩

class Facts : Prop where
  bcast_S4_S1x4_1 : S4.BroadcastsInDim S1x4 (![1] : Fin 1 → Fin S1x4.rank)
  bcast_S1024x1_S1024x4_0_1 : S1024x1.BroadcastsInDim S1024x4 (![0, 1] : Fin 2 → Fin S1024x4.rank)
  bcast_S1x4_S1024x4_0_1 : S1x4.BroadcastsInDim S1024x4 (![0, 1] : Fin 2 → Fin S1024x4.rank)
  natLt_1_32 : 1 < 32
  reducesTo_S1024x4_S4_d0 : S1024x4.ReducesTo [0] S4
  h_S_ : 0 < S_.numel
  bcast_S_S1024x1 : S_.BroadcastsInDim S1024x1 (![] : Fin 0 → Fin S1024x1.rank)
  reducesTo_S1024x1_S_d0_1 : S1024x1.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S1024x1024 .f32) (main_arg1 : IVec S1024x1 32) (main_arg2 : FVec F S2x1024x2048 .f32) (main_arg3 : FVec F S2x2048x1024 .f32) : IVec S_ 1 :=
  let main_v0 : IVec S4 32 := iotaInDim S4 32 0
  let main_v1 : IVec S1x4 32 := broadcastInDim S1x4 ![1] bcast_S4_S1x4_1 main_v0
  let main_v2 : IVec S1024x4 32 := broadcastInDim S1024x4 ![0, 1] bcast_S1024x1_S1024x4_0_1 main_arg1
  let main_v3 : IVec S1024x4 32 := broadcastInDim S1024x4 ![0, 1] bcast_S1x4_S1024x4_0_1 main_v1
  let main_v4 : IVec S1024x4 1 := cmpi .eq main_v2 main_v3
  let main_v5 : IVec S1024x4 32 := (extui 32 · natLt_1_32) main_v4
  let main_c : IVec S_ 32 := constantI S_ 32 0#32
  let main_v6 : IVec S4 32 := (fun x v => Host.reduce IntOp.addi x v reducesTo_S1024x4_S4_d0 h_S_) main_v5 main_c
  let main_c_0 : IVec S_ 32 := constantI S_ 32 0#32
  let main_v7 : IVec S1024x1 32 := broadcastInDim S1024x1 ![] bcast_S_S1024x1 main_c_0
  let main_v8 : IVec S1024x1 1 := cmpi .sge main_arg1 main_v7
  let main_c_1 : IVec S_ 32 := constantI S_ 32 4#32
  let main_v9 : IVec S1024x1 32 := broadcastInDim S1024x1 ![] bcast_S_S1024x1 main_c_1
  let main_v10 : IVec S1024x1 1 := cmpi .slt main_arg1 main_v9
  let main_v11 : IVec S1024x1 1 := andi main_v8 main_v10
  let main_c_2 : IVec S_ 1 := constantI S_ 1 1#1
  let main_v12 : IVec S_ 1 := (fun x v => Host.reduce IntOp.andi x v reducesTo_S1024x1_S_d0_1 h_S_) main_v11 main_c_2
  let main_c_3 : IVec S_ 32 := constantI S_ 32 288#32
  let main_v13 : IVec S4 32 := broadcastInDim S4 ![] bcast_S_S4 main_c_3
  let main_v14 : IVec S4 1 := cmpi .sle main_v6 main_v13
  let main_c_4 : IVec S_ 1 := constantI S_ 1 1#1
  let main_v15 : IVec S_ 1 := (fun x v => Host.reduce IntOp.andi x v reducesTo_S4_S_d0 h_S_) main_v14 main_c_4
  let main_v16 : IVec S_ 1 := andi main_v12 main_v15
  main_v16
-- ==== Pre_fits_ReferenceIdeal.lean ====
abbrev S2048x1024 : Shape := ⟨2, ![2048, 1024]⟩
abbrev S2048x1 : Shape := ⟨2, ![2048, 1]⟩
abbrev S4x1024x2048 : Shape := ⟨3, ![4, 1024, 2048]⟩
abbrev S4x2048x1024 : Shape := ⟨3, ![4, 2048, 1024]⟩
abbrev S4 : Shape := ⟨1, ![4]⟩
abbrev S1x4 : Shape := ⟨2, ![1, 4]⟩
abbrev S2048x4 : Shape := ⟨2, ![2048, 4]⟩
abbrev S_ : Shape := ⟨0, ![]⟩

class Facts : Prop where
  bcast_S4_S1x4_1 : S4.BroadcastsInDim S1x4 (![1] : Fin 1 → Fin S1x4.rank)
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  natLt_1_32 : 1 < 32
  reducesTo_S2048x4_S4_d0 : S2048x4.ReducesTo [0] S4
  h_S_ : 0 < S_.numel
  bcast_S_S2048x1 : S_.BroadcastsInDim S2048x1 (![] : Fin 0 → Fin S2048x1.rank)
  reducesTo_S2048x1_S_d0_1 : S2048x1.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S2048x1024 .f32) (main_arg1 : IVec S2048x1 32) (main_arg2 : FVec F S4x1024x2048 .f32) (main_arg3 : FVec F S4x2048x1024 .f32) : IVec S_ 1 :=
  let main_v0 : IVec S4 32 := iotaInDim S4 32 0
  let main_v1 : IVec S1x4 32 := broadcastInDim S1x4 ![1] bcast_S4_S1x4_1 main_v0
  let main_v2 : IVec S2048x4 32 := broadcastInDim S2048x4 ![0, 1] bcast_S2048x1_S2048x4_0_1 main_arg1
  let main_v3 : IVec S2048x4 32 := broadcastInDim S2048x4 ![0, 1] bcast_S1x4_S2048x4_0_1 main_v1
  let main_v4 : IVec S2048x4 1 := cmpi .eq main_v2 main_v3
  let main_v5 : IVec S2048x4 32 := (extui 32 · natLt_1_32) main_v4
  let main_c : IVec S_ 32 := constantI S_ 32 0#32
  let main_v6 : IVec S4 32 := (fun x v => Host.reduce IntOp.addi x v reducesTo_S2048x4_S4_d0 h_S_) main_v5 main_c
  let main_c_0 : IVec S_ 32 := constantI S_ 32 0#32
  let main_v7 : IVec S2048x1 32 := broadcastInDim S2048x1 ![] bcast_S_S2048x1 main_c_0
  let main_v8 : IVec S2048x1 1 := cmpi .sge main_arg1 main_v7
  let main_c_1 : IVec S_ 32 := constantI S_ 32 4#32
  let main_v9 : IVec S2048x1 32 := broadcastInDim S2048x1 ![] bcast_S_S2048x1 main_c_1
  let main_v10 : IVec S2048x1 1 := cmpi .slt main_arg1 main_v9
  let main_v11 : IVec S2048x1 1 := andi main_v8 main_v10
  let main_c_2 : IVec S_ 1 := constantI S_ 1 1#1
  let main_v12 : IVec S_ 1 := (fun x v => Host.reduce IntOp.andi x v reducesTo_S2048x1_S_d0_1 h_S_) main_v11 main_c_2
  let main_c_3 : IVec S_ 32 := constantI S_ 32 288#32
  let main_v13 : IVec S4 32 := broadcastInDim S4 ![] bcast_S_S4 main_c_3
  let main_v14 : IVec S4 1 := cmpi .sle main_v6 main_v13
  let main_c_4 : IVec S_ 1 := constantI S_ 1 1#1
  let main_v15 : IVec S_ 1 := (fun x v => Host.reduce IntOp.andi x v reducesTo_S4_S_d0 h_S_) main_v14 main_c_4
  let main_v16 : IVec S_ 1 := andi main_v12 main_v15
  main_v16
-- ==== Kernel.lean ====
abbrev S1024x1024 : Shape := ⟨2, ![1024, 1024]⟩
abbrev S1024x1 : Shape := ⟨2, ![1024, 1]⟩
abbrev S2x1024x2048 : Shape := ⟨3, ![2, 1024, 2048]⟩
abbrev S2x2048x1024 : Shape := ⟨3, ![2, 2048, 1024]⟩
abbrev S576x1024 : Shape := ⟨2, ![576, 1024]⟩
abbrev S1024x2048 : Shape := ⟨2, ![1024, 2048]⟩
abbrev S2048x1024 : Shape := ⟨2, ![2048, 1024]⟩
abbrev S_ : Shape := ⟨0, ![]⟩
abbrev S2 : Shape := ⟨1, ![2]⟩
abbrev S4 : Shape := ⟨1, ![4]⟩
abbrev S1 : Shape := ⟨1, ![1]⟩
abbrev S1x1024x2048 : Shape := ⟨3, ![1, 1024, 2048]⟩
abbrev S1x2048x1024 : Shape := ⟨3, ![1, 2048, 1024]⟩
abbrev S1024x4 : Shape := ⟨2, ![1024, 4]⟩
abbrev S1024 : Shape := ⟨1, ![1024]⟩
abbrev S1024x288 : Shape := ⟨2, ![1024, 288]⟩
abbrev S288x1024 : Shape := ⟨2, ![288, 1024]⟩
abbrev S1024x576 : Shape := ⟨2, ![1024, 576]⟩
abbrev S288x2048 : Shape := ⟨2, ![288, 2048]⟩

abbrev nBuf : Space → Nat
  | .hbm => 5
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x1, .i32⟩
  | .hbm, ⟨2, _⟩ => ⟨S2x1024x2048, .f32⟩
  | .hbm, ⟨3, _⟩ => ⟨S2x2048x1024, .f32⟩
  | .hbm, ⟨4, _⟩ => ⟨S1024x1024, .f32⟩
  | .local _ .vmem, ⟨0, _⟩ => ⟨S1024x1, .i32⟩
  | .local _ .vmem, ⟨1, _⟩ => ⟨S1024x1024, .f32⟩
  | .local _ .vmem, ⟨2, _⟩ => ⟨S1024x1024, .f32⟩
  | .local _ .vmem, ⟨3, _⟩ => ⟨S576x1024, .bf16⟩
  | .local _ .vmem, ⟨4, _⟩ => ⟨S576x1024, .bf16⟩
  | .local _ .vmem, ⟨5, _⟩ => ⟨S576x1024, .bf16⟩
  | .local _ .vmem, ⟨6, _⟩ => ⟨S576x1024, .bf16⟩
  | .local _ .vmem, ⟨7, _⟩ => ⟨S576x1024, .bf16⟩
  | .local _ .vmem, ⟨8, _⟩ => ⟨S1024x2048, .f32⟩
  | .local _ .vmem, ⟨9, _⟩ => ⟨S2048x1024, .f32⟩
  | .local _ .vmem, ⟨10, _⟩ => ⟨S1024x2048, .bf16⟩
  | .local _ .vmem, ⟨11, _⟩ => ⟨S2048x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_12 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_11 : BitVec 32 := 16#32
  let v19 : BitVec 32 := Scalar.muli v3 c16_i32_11
  let v20 : BitVec 32 := Scalar.addi c0_i32_12 v19
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_13 : BitVec 32 := 4#32
  let v21 : BitVec 32 := Scalar.muli v6 c4_i32_13
  let v22 : BitVec 32 := Scalar.addi v20 v21
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_14 : BitVec 32 := 1#32
  let v23 : BitVec 32 := Scalar.muli v9 c1_i32_14
  let v24 : BitVec 32 := Scalar.addi v22 v23
  v24.toNat
def k0_dev2 (d0 : Dev nD) : Nat :=
  let c0_i32_28 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_27 : BitVec 32 := 16#32
  let v68 : BitVec 32 := Scalar.muli v3 c16_i32_27
  let v69 : BitVec 32 := Scalar.addi c0_i32_28 v68
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_29 : BitVec 32 := 4#32
  let v70 : BitVec 32 := Scalar.muli v6 c4_i32_29
  let v71 : BitVec 32 := Scalar.addi v69 v70
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_30 : BitVec 32 := 1#32
  let v72 : BitVec 32 := Scalar.muli v9 c1_i32_30
  let v73 : BitVec 32 := Scalar.addi v71 v72
  v73.toNat
def k0_dev3 (d0 : Dev nD) : Nat :=
  let c0_i32_40 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_39 : BitVec 32 := 16#32
  let v92 : BitVec 32 := Scalar.muli v3 c16_i32_39
  let v93 : BitVec 32 := Scalar.addi c0_i32_40 v92
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_41 : BitVec 32 := 4#32
  let v94 : BitVec 32 := Scalar.muli v6 c4_i32_41
  let v95 : BitVec 32 := Scalar.addi v93 v94
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_42 : BitVec 32 := 1#32
  let v96 : BitVec 32 := Scalar.muli v9 c1_i32_42
  let v97 : BitVec 32 := Scalar.addi v95 v96
  v97.toNat
def k0_dev4 (d0 : Dev nD) : Nat :=
  let c0_i32_115 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_114 : BitVec 32 := 16#32
  let v192 : BitVec 32 := Scalar.muli v3 c16_i32_114
  let v193 : BitVec 32 := Scalar.addi c0_i32_115 v192
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_116 : BitVec 32 := 4#32
  let v194 : BitVec 32 := Scalar.muli v6 c4_i32_116
  let v195 : BitVec 32 := Scalar.addi v193 v194
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_117 : BitVec 32 := 1#32
  let v196 : BitVec 32 := Scalar.muli v9 c1_i32_117
  let v197 : BitVec 32 := Scalar.addi v195 v196
  v197.toNat
def k0_dev5 (d0 : Dev nD) : Nat :=
  let c0_i32_168 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_167 : BitVec 32 := 16#32
  let v248 : BitVec 32 := Scalar.muli v3 c16_i32_167
  let v249 : BitVec 32 := Scalar.addi c0_i32_168 v248
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_169 : BitVec 32 := 4#32
  let v250 : BitVec 32 := Scalar.muli v6 c4_i32_169
  let v251 : BitVec 32 := Scalar.addi v249 v250
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_170 : BitVec 32 := 1#32
  let v252 : BitVec 32 := Scalar.muli v9 c1_i32_170
  let v253 : BitVec 32 := Scalar.addi v251 v252
  v253.toNat
abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩
abbrev S2048x1 : Shape := ⟨2, ![2048, 1]⟩
abbrev S4x1024x2048 : Shape := ⟨3, ![4, 1024, 2048]⟩
abbrev S4x2048x1024 : Shape := ⟨3, ![4, 2048, 1024]⟩
abbrev S2048 : Shape := ⟨1, ![2048]⟩
abbrev S_ : Shape := ⟨0, ![]⟩
abbrev S1x1024x2048 : Shape := ⟨3, ![1, 1024, 2048]⟩
abbrev S1024x2048 : Shape := ⟨2, ![1024, 2048]⟩
abbrev S2048x2048 : Shape := ⟨2, ![2048, 2048]⟩
abbrev S1x2048x1024 : Shape := ⟨3, ![1, 2048, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1, .i32⟩
  | .hbm, ⟨2, _⟩ => ⟨S4x1024x2048, .f32⟩
  | .hbm, ⟨3, _⟩ => ⟨S4x2048x1024, .f32⟩
  | .hbm, ⟨4, _⟩ => ⟨S2048, .i32⟩
  | .hbm, ⟨5, _⟩ => ⟨S_, .f32⟩
  | .hbm, ⟨6, _⟩ => ⟨S2048x1024, .f32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S1x1024x2048, .f32⟩
  | .hbm, ⟨11, _⟩ => ⟨S1024x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x1, .i1⟩
  | .hbm, ⟨17, _⟩ => ⟨S1x2048x1024, .f32⟩
  | .hbm, ⟨18, _⟩ => ⟨S2048x1024, .f32⟩
  | .hbm, ⟨19, _⟩ => ⟨S2048x1024, .f32⟩
  | .hbm, ⟨20, _⟩ => ⟨S2048x1024, .i1⟩
  | .hbm, ⟨21, _⟩ => ⟨S2048x1024, .f32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S1x1024x2048, .f32⟩
  | .hbm, ⟨26, _⟩ => ⟨S1024x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x1, .i1⟩
  | .hbm, ⟨32, _⟩ => ⟨S1x2048x1024, .f32⟩
  | .hbm, ⟨33, _⟩ => ⟨S2048x1024, .f32⟩
  | .hbm, ⟨34, _⟩ => ⟨S2048x1024, .f32⟩
  | .hbm, ⟨35, _⟩ => ⟨S2048x1024, .i1⟩
  | .hbm, ⟨36, _⟩ => ⟨S2048x1024, .f32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S1x1024x2048, .f32⟩
  | .hbm, ⟨41, _⟩ => ⟨S1024x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S2048x1, .i1⟩
  | .hbm, ⟨47, _⟩ => ⟨S1x2048x1024, .f32⟩
  | .hbm, ⟨48, _⟩ => ⟨S2048x1024, .f32⟩
  | .hbm, ⟨49, _⟩ => ⟨S2048x1024, .f32⟩
  | .hbm, ⟨50, _⟩ => ⟨S2048x1024, .i1⟩
  | .hbm, ⟨51, _⟩ => ⟨S2048x1024, .f32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S1x1024x2048, .f32⟩
  | .hbm, ⟨56, _⟩ => ⟨S1024x2048, .f32⟩
  | .hbm, ⟨57, _⟩ => ⟨S2048x2048, .f32⟩
  | .hbm, ⟨58, _⟩ => ⟨S_, .f32⟩
  | .hbm, ⟨59, _⟩ => ⟨S2048x2048, .f32⟩
  | .hbm, ⟨60, _⟩ => ⟨S2048x2048, .f32⟩
  | .hbm, ⟨61, _⟩ => ⟨S2048x1, .i1⟩
  | .hbm, ⟨62, _⟩ => ⟨S1x2048x1024, .f32⟩
  | .hbm, ⟨63, _⟩ => ⟨S2048x1024, .f32⟩
  | .hbm, ⟨64, _⟩ => ⟨S2048x1024, .f32⟩
  | .hbm, ⟨65, _⟩ => ⟨S2048x1024, .i1⟩
  | .hbm, ⟨66, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_v0 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call2_v0 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call3_v0 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.Protocol.lean ====
/-
The exchange protocol of the expert-parallel kernel, stated once at a symbolic device: who pays which semaphore cell,
what travels with each payment and at which contents, what a device owes at launch, and at which level each cell waits.

Device `c` talks to one device only, `peer c` (the mesh's first axis flipped). A device has nine cells of the protocol:
the runtime's barrier cell, four send cells and four receive cells. Each has one duty, at round 0.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the protocol's rounds, the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB (MT nD τ sig Unit (Elt F) ℕ UU ℕ)).LandsIn (upEmb : UEmb _ 𝕄) := by
  unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peer -/

set_option backward.proofsInPublic true in
/-- The device with the same position in every mesh axis but the first, which is flipped. -/
def peer (c : Dev nD) : Dev nD := ⟨(c.val + 16) % 32, Nat.mod_lt _ (by decide)⟩

theorem peer_peer (c : Dev nD) : peer (peer c) = c := by revert c; decide

theorem dev1_eq (c : Dev nD) : (⟨k0_dev1 c, k0_dev1_lt c⟩ : Dev nD) = peer c := by
  revert c; decide +kernel
theorem dev2_eq (c : Dev nD) : (⟨k0_dev2 c, k0_dev2_lt c⟩ : Dev nD) = peer c := by
  revert c; decide +kernel
theorem dev3_eq (c : Dev nD) : (⟨k0_dev3 c, k0_dev3_lt c⟩ : Dev nD) = peer c := by
  revert c; decide +kernel
theorem dev4_eq (c : Dev nD) : (⟨k0_dev4 c, k0_dev4_lt c⟩ : Dev nD) = peer c := by
  revert c; decide +kernel
theorem dev5_eq (c : Dev nD) : (⟨k0_dev5 c, k0_dev5_lt c⟩ : Dev nD) = peer c := by
  revert c; decide +kernel

def flip : Dev nD ≃ Dev nD := ⟨peer, peer, peer_peer, peer_peer⟩

/-! ## The memrefs and cells -/

abbrev aM : Memref sig .tc .vmem S1024x1 .i32 := Memref.whole cc0_stg0_0
abbrev oM : Memref sig .tc .vmem S1024x1024 .f32 := Memref.whole cc0_stg1_0
abbrev xM : Memref sig .tc .hbm S1024x1024 .f32 := Memref.whole main_arg0
abbrev g1M : Memref sig .tc .hbm S2x1024x2048 .f32 := Memref.whole main_arg2
abbrev g2M : Memref sig .tc .hbm S2x2048x1024 .f32 := Memref.whole main_arg3
abbrev xvM : Memref sig .tc .vmem S1024x1024 .f32 := Memref.whole cc0_scratch0
abbrev xgM : Memref sig .tc .vmem S576x1024 .bf16 := Memref.whole cc0_scratch1
abbrev xrM : Memref sig .tc .vmem S576x1024 .bf16 := Memref.whole cc0_scratch2
abbrev ylM : Memref sig .tc .vmem S576x1024 .bf16 := Memref.whole cc0_scratch3
abbrev ysM : Memref sig .tc .vmem S576x1024 .bf16 := Memref.whole cc0_scratch4
abbrev yrM : Memref sig .tc .vmem S576x1024 .bf16 := Memref.whole cc0_scratch5
abbrev w1fM : Memref sig .tc .vmem S1024x2048 .f32 := Memref.whole cc0_scratch6
abbrev w2fM : Memref sig .tc .vmem S2048x1024 .f32 := Memref.whole cc0_scratch7
abbrev w1bM : Memref sig .tc .vmem S1024x2048 .bf16 := Memref.whole cc0_scratch8
abbrev w2bM : Memref sig .tc .vmem S2048x1024 .bf16 := Memref.whole cc0_scratch9

/-- The two row halves of a 576 × 1024 buffer. -/
abbrev rlo : Rect S576x1024 := Rect.unit (s := S576x1024) ![0, 0] S288x1024.size inb_S576x1024_S288x1024_0_0
abbrev rhi : Rect S576x1024 := Rect.unit (s := S576x1024) ![288, 0] S288x1024.size inb_S576x1024_S288x1024_288_0
abbrev lo (M : Memref sig .tc .vmem S576x1024 .bf16) : Memref sig .tc .vmem S288x1024 .bf16 := M.slice rlo (fun _ => rfl)
abbrev hi (M : Memref sig .tc .vmem S576x1024 .bf16) : Memref sig .tc .vmem S288x1024 .bf16 := M.slice rhi (fun _ => rfl)

/-- The weights of a device's two experts in the argument arrays. -/
abbrev w1s0 : Memref sig .tc .hbm S1024x2048 .f32 :=
  (g1M.slice (Rect.unit (s := S2x1024x2048) ![0, 0, 0] S1x1024x2048.size inb_S2x1024x2048_S1x1024x2048_0_0_0) (fun _ => rfl)).squeeze S1024x2048 squeezes_S1x1024x2048_S1024x2048
abbrev w1s1 : Memref sig .tc .hbm S1024x2048 .f32 :=
  (g1M.slice (Rect.unit (s := S2x1024x2048) ![1, 0, 0] S1x1024x2048.size inb_S2x1024x2048_S1x1024x2048_1_0_0) (fun _ => rfl)).squeeze S1024x2048 squeezes_S1x1024x2048_S1024x2048
abbrev w2s0 : Memref sig .tc .hbm S2048x1024 .f32 :=
  (g2M.slice (Rect.unit (s := S2x2048x1024) ![0, 0, 0] S1x2048x1024.size inb_S2x2048x1024_S1x2048x1024_0_0_0) (fun _ => rfl)).squeeze S2048x1024 squeezes_S1x2048x1024_S2048x1024
abbrev w2s1 : Memref sig .tc .hbm S2048x1024 .f32 :=
  (g2M.slice (Rect.unit (s := S2x2048x1024) ![1, 0, 0] S1x2048x1024.size inb_S2x2048x1024_S1x2048x1024_1_0_0) (fun _ => rfl)).squeeze S2048x1024 squeezes_S1x2048x1024_S2048x1024

/-- The runtime's barrier semaphore, the local transfers' semaphores, the send and receive semaphores. -/
abbrev barS : Sem sig := (SemArray.scalar (sig.barrier 0 rfl) : Sems sig S_).sem
abbrev xS : DmaSem sig := (cc0_scratch10 : DmaSems sig S_).sem
abbrev ws0 : DmaSem sig := ((cc0_scratch11.slice (Rect.unit (s := S2) ![0] S1.size inb_S2_S1_0)).squeeze S_ squeezes_S1_S_ : DmaSems sig S_).sem
abbrev ws1 : DmaSem sig := ((cc0_scratch11.slice (Rect.unit (s := S2) ![1] S1.size inb_S2_S1_1)).squeeze S_ squeezes_S1_S_ : DmaSems sig S_).sem
abbrev ss0 : DmaSem sig := ((cc0_scratch12.slice (Rect.unit (s := S4) ![0] S1.size inb_S4_S1_0)).squeeze S_ squeezes_S1_S_ : DmaSems sig S_).sem
abbrev ss1 : DmaSem sig := ((cc0_scratch12.slice (Rect.unit (s := S4) ![1] S1.size inb_S4_S1_1)).squeeze S_ squeezes_S1_S_ : DmaSems sig S_).sem
abbrev ss2 : DmaSem sig := ((cc0_scratch12.slice (Rect.unit (s := S4) ![2] S1.size inb_S4_S1_2)).squeeze S_ squeezes_S1_S_ : DmaSems sig S_).sem
abbrev ss3 : DmaSem sig := ((cc0_scratch12.slice (Rect.unit (s := S4) ![3] S1.size inb_S4_S1_3)).squeeze S_ squeezes_S1_S_ : DmaSems sig S_).sem
abbrev rs0 : DmaSem sig := ((cc0_scratch13.slice (Rect.unit (s := S4) ![0] S1.size inb_S4_S1_0)).squeeze S_ squeezes_S1_S_ : DmaSems sig S_).sem
abbrev rs1 : DmaSem sig := ((cc0_scratch13.slice (Rect.unit (s := S4) ![1] S1.size inb_S4_S1_1)).squeeze S_ squeezes_S1_S_ : DmaSems sig S_).sem
abbrev rs2 : DmaSem sig := ((cc0_scratch13.slice (Rect.unit (s := S4) ![2] S1.size inb_S4_S1_2)).squeeze S_ squeezes_S1_S_ : DmaSems sig S_).sem
abbrev rs3 : DmaSem sig := ((cc0_scratch13.slice (Rect.unit (s := S4) ![3] S1.size inb_S4_S1_3)).squeeze S_ squeezes_S1_S_ : DmaSems sig S_).sem

/-- The kernel's own (scoped) semaphores: the three of the local transfers, the four send, the four receive. -/
abbrev osem : Fin 11 → SemLoc sig := fun
  | 0 => .dma xS | 1 => .dma ws0 | 2 => .dma ws1
  | 3 => .dma ss0 | 4 => .dma ss1 | 5 => .dma ss2 | 6 => .dma ss3
  | 7 => .dma rs0 | 8 => .dma rs1 | 9 => .dma rs2 | 10 => .dma rs3
/-- The protocol's nine: barrier, send, receive. -/
abbrev csem : Fin 9 → SemLoc sig := fun
  | 0 => .reg barS
  | 1 => .dma ss0 | 2 => .dma ss1 | 3 => .dma ss2 | 4 => .dma ss3
  | 5 => .dma rs0 | 6 => .dma rs1 | 7 => .dma rs2 | 8 => .dma rs3

theorem ownSemFacts : Pipeline.OwnSemFacts cfg0.spec osem := by decide

theorem csem_injective : Function.Injective csem := by decide

abbrev kcell (ck : Dev nD × Fin 9) : GSem nD τ sig := ((ck.1 : Thread nD τ), csem ck.2)

theorem kcell_injective : Function.Injective (kcell : Dev nD × Fin 9 → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-- A transfer's credit: that of one row half. -/
abbrev N : ℕ := (lo xrM).view.dmaCredit
theorem N_pos : 0 < N := View.dmaCredit_pos _ (by decide)

/-- What a cell's one payment counts. -/
def amt (k : Fin 9) : ℕ := if k = 0 then 1 else N
theorem amt_pos (k : Fin 9) : 0 < amt k := by
  unfold amt; split
  · exact Nat.one_pos
  · exact N_pos

/-! ## Contents -/

/-- Device `c`'s tokens and assignments as launched, and the weights of its two experts. -/
def xAt (c : Dev nD) : S1024x1024.Idx → Elt F .f32 := m ((c : Thread nD τ).loc main_arg0)
def aAt (c : Dev nD) : S1024x1.Idx → Elt F .i32 := (win0_0.blk (0 : Fin 1)).view.read (Elt F) (m ((c : Thread nD τ).loc main_arg1))
def w1At0 (c : Dev nD) : S1024x2048.Idx → Elt F .f32 := w1s0.view.read (Elt F) (m ((c : Thread nD τ).loc main_arg2))
def w1At1 (c : Dev nD) : S1024x2048.Idx → Elt F .f32 := w1s1.view.read (Elt F) (m ((c : Thread nD τ).loc main_arg2))
def w2At0 (c : Dev nD) : S2048x1024.Idx → Elt F .f32 := w2s0.view.read (Elt F) (m ((c : Thread nD τ).loc main_arg3))
def w2At1 (c : Dev nD) : S2048x1024.Idx → Elt F .f32 := w2s1.view.read (Elt F) (m ((c : Thread nD τ).loc main_arg3))

/-- The device's position on the mesh's first axis. -/
def pxAt (c : Dev nD) : BitVec 32 := Scalar.remsi (Scalar.divsi (Dev.word c) 16#32) 2#32
/-- The assignments, their one-hot rows, the slot columns, the tokens cast, the half's column numbers. -/
def v26 (c : Dev nD) : IVec S1024x1 32 := k0_pay2 (aAt m c)
def v29 (c : Dev nD) : IVec S1024x4 1 := k0_pay3 (aAt m c)
def v52 (c : Dev nD) : IVec S1024x1 32 := k0_pay4 (F := F) (pxAt c) (v26 m c) (v29 m c)
def v54 (c : Dev nD) : FVec F S1024x1024 .bf16 := k0_pay5 (xAt m c)
def v55 : IVec S1024x288 32 := iota .tc S1024x288 32 [1] iota_S1024x288_d1_w32
/-- What device `c` sends: its tokens for the peer's first and second expert. -/
def xg0 (c : Dev nD) : FVec F S288x1024 .bf16 := k0_pay6 (pxAt c) (v26 m c) (v29 m c) (xAt m c)
def xg1 (c : Dev nD) : FVec F S288x1024 .bf16 := k0_pay7 (v52 m c) (v54 m c) v55
def v109 (c : Dev nD) : FVec F S1024x576 .bf16 := k0_pay8 (v52 m c)
def v111 (c : Dev nD) : FVec F S576x1024 .bf16 := k0_pay9 (v54 m c) (v109 m c)
def v118 (c : Dev nD) : FVec F S1024x288 .bf16 := k0_pay10 (v52 m c) v55
def v127 (c : Dev nD) : FVec F S1024x288 .bf16 := k0_pay11 (v52 m c) v55
def w1b0 (c : Dev nD) : FVec F S1024x2048 .bf16 := k0_pay12 (w1At0 m c)
def w2b0 (c : Dev nD) : FVec F S2048x1024 .bf16 := k0_pay13 (w2At0 m c)
def w1b1 (c : Dev nD) : FVec F S1024x2048 .bf16 := k0_pay16 (w1At1 m c)
def w2b1 (c : Dev nD) : FVec F S2048x1024 .bf16 := k0_pay17 (w2At1 m c)
/-- The device's own tokens through its two experts. -/
def yl0 (c : Dev nD) : FVec F S288x1024 .bf16 := k0_pay14 (v111 m c) (w1b0 m c) (w2b0 m c)
def yl1 (c : Dev nD) : FVec F S288x1024 .bf16 := k0_pay20 (k0_pay19 (v111 m c)) (w1b1 m c) (w2b1 m c)
/-- The peer's tokens through the device's two experts: what it sends back. -/
def ys0 (c : Dev nD) : FVec F S288x1024 .bf16 := k0_pay15 (xg0 m (peer c)) (w1b0 m c) (w2b0 m c)
def ys1 (c : Dev nD) : FVec F S288x1024 .bf16 := k0_pay18 (xg1 m (peer c)) (w1b1 m c) (w2b1 m c)

/-- The whole of a 576 × 1024 buffer from its two row halves. -/
def glue {V : Type} (a b : S288x1024.Idx → V) (i : S576x1024.Idx) : V :=
  open Classical in
  if h : ∃ j : S288x1024.Idx, rlo.emb j = i then a h.choose
  else b (if h : ∃ j : S288x1024.Idx, rhi.emb j = i then h.choose else fun d => ⟨0, by fin_cases d <;> decide⟩)

/-- The kernel's result on device `c`. -/
def outAt (c : Dev nD) : S1024x1024.Idx → Elt F .f32 :=
  k0_pay1 (v118 m c) (v127 m c) (k0_pay21 (v109 m c) (glue (V := Elt F .bf16) (yl0 m c) (yl1 m c))) (ys0 m (peer c)) (ys1 m (peer c))

/-! ## The schedule -/

abbrev own (c : Dev nD) (M : Memref sig .tc .vmem S288x1024 .bf16) (X : S288x1024.Idx → Elt F .bf16) : sProp 𝕄 :=
  owns (c : Thread nD τ) M fullShare X
/-- A row half held at some contents. -/
abbrev any (c : Dev nD) (M : Memref sig .tc .vmem S288x1024 .bf16) : sProp 𝕄 := iprop(∃ X, own c M X)

/-- What a payment of device `c`'s cell `k` hands `c`: the barrier the peer's four landing halves, a send cell the sent
    half back, a receive cell the half that landed, at what the peer sent. -/
def pay (c : Dev nD) : Fin 9 → sProp 𝕄
  | 0 => iprop(any (peer c) (lo xrM) ∗ any (peer c) (hi xrM) ∗ any (peer c) (lo yrM) ∗ any (peer c) (hi yrM))
  | 1 => any c (lo xgM)
  | 2 => any c (lo ysM)
  | 3 => any c (hi xgM)
  | 4 => any c (hi ysM)
  | 5 => own c (lo xrM) (xg0 m (peer c))
  | 6 => own c (lo yrM) (ys0 m (peer c))
  | 7 => own c (hi xrM) (xg1 m (peer c))
  | 8 => own c (hi yrM) (ys1 m (peer c))

instance pay_storable (c : Dev nD) (k : Fin 9) : BI.Storable (upEmb : UEmb _ 𝕄) (pay m c k) := by
  fin_cases k <;> (dsimp only [pay]; infer_instance)

/-- One round, round 0, one duty a cell. -/
def Rd : Rounds.Schedule (GSem nD τ sig) Unit 𝕄 where
  duties g r := open Classical in if r = 0 ∧ ∃ ck, kcell ck = g then {()} else ∅
  unitless _ := False
  amount g _ _ := if g.2 = .reg barS then 1 else N
  payload g _ _ := open Classical in if h : ∃ ck, kcell ck = g then pay m h.choose.1 h.choose.2 else iprop(emp)
  amount_pos g _ _ _ := by
    by_cases h : g.2 = .reg barS
    · rw [if_pos h]; exact Nat.one_pos
    · rw [if_neg h]; exact N_pos

instance Rd_payload_storable (g : GSem nD τ sig) (r : ℕ) (d : Unit) : BI.Storable (upEmb : UEmb _ 𝕄) ((Rd m).payload g r d) := by
  dsimp only [Rd]
  split <;> infer_instance

theorem duties_zero (ck : Dev nD × Fin 9) : (Rd m).duties (kcell ck) 0 = {()} := by
  dsimp only [Rd]; exact if_pos ⟨rfl, ck, rfl⟩
theorem duties_later (g : GSem nD τ sig) : ∀ r, 1 ≤ r → (Rd m).duties g r = ∅ :=
  fun r hr => by dsimp only [Rd]; exact if_neg fun h => by omega
theorem mem_duties (ck : Dev nD × Fin 9) : () ∈ (Rd m).duties (kcell ck) 0 := by
  rw [duties_zero]; exact Finset.mem_singleton_self _

theorem amount_bar (c : Dev nD) : (Rd m).amount (kcell (c, 0)) 0 () = 1 := by dsimp only [Rd]; exact if_pos rfl
theorem amount_dma (c : Dev nD) (k : Fin 9) (hk : k ≠ 0) : (Rd m).amount (kcell (c, k)) 0 () = N := by
  dsimp only [Rd]; exact if_neg fun h => hk (csem_injective (a₂ := 0) h)
theorem amount_eq (c : Dev nD) (k : Fin 9) : (Rd m).amount (kcell (c, k)) 0 () = amt k := by
  unfold amt
  by_cases hk : k = 0
  · subst hk; rw [if_pos rfl]; exact amount_bar m c
  · rw [if_neg hk]; exact amount_dma m c k hk

theorem expect_eq (c : Dev nD) (k : Fin 9) : (Rd m).expect (kcell (c, k)) 0 = amt k := by
  unfold Schedule.expect Schedule.amountOf
  rw [duties_zero, Finset.sum_singleton, amount_eq]

theorem payload_eq (c : Dev nD) (k : Fin 9) : (Rd m).payload (kcell (c, k)) 0 () = pay m c k := by
  have h : ∃ ck, kcell ck = kcell (c, k) := ⟨(c, k), rfl⟩
  have h2 : h.choose = (c, k) := kcell_injective h.choose_spec
  dsimp only [Rd]
  rw [dif_pos h, h2]

/-- The rest of a cell's round, no duty taken: its payload. -/
theorem rest_eq (c : Dev nD) (k : Fin 9) :
    bigSep ((Rd m).duties (kcell (c, k)) 0 \ ∅) (fun d => (Rd m).payload (kcell (c, k)) 0 d) = pay m c k := by
  rw [Finset.sdiff_empty, duties_zero, bigSep_singleton, payload_eq]

/-! ## What each device owes at launch; the levels -/

/-- A device owes its peer's four receive cells a half's credit each and its barrier cell one unit, summed so that each
    payment, in program order, peels the last summand. -/
def O3 (c : Dev nD) : CellTallies nD τ sig Unit := tallyAt (kcell (peer c, 8)) () N
def O1 (c : Dev nD) : CellTallies nD τ sig Unit := O3 c + tallyAt (kcell (peer c, 6)) () N
def O2 (c : Dev nD) : CellTallies nD τ sig Unit := O1 c + tallyAt (kcell (peer c, 7)) () N
def Or (c : Dev nD) : CellTallies nD τ sig Unit := O2 c + tallyAt (kcell (peer c, 5)) () N
def O₀ (c : Dev nD) : CellTallies nD τ sig Unit := Or c + tallyAt (kcell (peer c, 0)) () 1

def L (g : GSem nD τ sig) : Finset Unit := if g.1.2 = .tc then {()} else ∅
/-- Receive cells above the barrier cells, in the order in which they are waited for; everything else at 0. -/
def lvS (s : SemLoc sig) : ℕ :=
  if s = csem 0 then 1 else if s = csem 5 then 2 else if s = csem 7 then 3 else if s = csem 6 then 4 else if s = csem 8 then 5 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem pos_add {A B : CellTallies nD τ sig Unit} {g : GSem nD τ sig} {u : Unit} (h : 0 < (A + B) g u) : 0 < A g u ∨ 0 < B g u := by
  rw [Pi.add_apply, Finsupp.add_apply] at h; omega
theorem pos_tally {g' g : GSem nD τ sig} {n : ℕ} {u : Unit} (h : 0 < tallyAt g' () n g u) : g = g' := by
  rw [tallyAt_apply] at h
  by_contra hn
  rw [if_neg fun h' => hn h'.1] at h
  exact Nat.lt_irrefl 0 h

theorem O3_pos {c : Dev nD} {g : GSem nD τ sig} {u : Unit} (h : 0 < O3 c g u) : g = kcell (peer c, 8) := pos_tally h
theorem O1_pos {c : Dev nD} {g : GSem nD τ sig} {u : Unit} (h : 0 < O1 c g u) : g = kcell (peer c, 8) ∨ g = kcell (peer c, 6) :=
  (pos_add h).imp O3_pos pos_tally
theorem O2_pos {c : Dev nD} {g : GSem nD τ sig} {u : Unit} (h : 0 < O2 c g u) :
    (g = kcell (peer c, 8) ∨ g = kcell (peer c, 6)) ∨ g = kcell (peer c, 7) := (pos_add h).imp O1_pos pos_tally
theorem Or_pos {c : Dev nD} {g : GSem nD τ sig} {u : Unit} (h : 0 < Or c g u) :
    ((g = kcell (peer c, 8) ∨ g = kcell (peer c, 6)) ∨ g = kcell (peer c, 7)) ∨ g = kcell (peer c, 5) := (pos_add h).imp O2_pos pos_tally
theorem O₀_pos {c : Dev nD} {g : GSem nD τ sig} {u : Unit} (h : 0 < O₀ c g u) :
    (((g = kcell (peer c, 8) ∨ g = kcell (peer c, 6)) ∨ g = kcell (peer c, 7)) ∨ g = kcell (peer c, 5)) ∨ g = kcell (peer c, 0) :=
  (pos_add h).imp Or_pos pos_tally

theorem lvS_kcell (c : Dev nD) (k : Fin 9) : lvS (kcell (c, k)).2 = lvS (csem k) := rfl

/-- A wait on a cell below everything the device still owes. -/
theorem mayWait_of (c : Dev nD) (sm : SemLoc sig) (O : CellTallies nD τ sig Unit)
    (h : ∀ g u, 0 < O g u → g.1.2 = .tc ∧ lvS sm < lvS g.2) :
    (levAts L lv : sProp 𝕄) ⊢ MayWait (c : Thread nD τ) sm () O :=
  MayOwe.of_cut (L := L) (lev := lv) (lvS sm)
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

theorem mayWait_O3 (c : Dev nD) (sm : SemLoc sig) (h : lvS sm < 5) : (levAts L lv : sProp 𝕄) ⊢ MayWait (c : Thread nD τ) sm () (O3 c) :=
  mayWait_of c sm _ fun g u hg => by rw [O3_pos hg]; exact ⟨rfl, lt_of_lt_of_le h (by rw [lvS_kcell]; decide)⟩
theorem mayWait_O1 (c : Dev nD) (sm : SemLoc sig) (h : lvS sm < 4) : (levAts L lv : sProp 𝕄) ⊢ MayWait (c : Thread nD τ) sm () (O1 c) :=
  mayWait_of c sm _ fun g u hg => by rcases O1_pos hg with rfl | rfl <;> exact ⟨rfl, lt_of_lt_of_le h (by rw [lvS_kcell]; decide)⟩
theorem mayWait_Or (c : Dev nD) (sm : SemLoc sig) (h : lvS sm < 2) : (levAts L lv : sProp 𝕄) ⊢ MayWait (c : Thread nD τ) sm () (Or c) :=
  mayWait_of c sm _ fun g u hg => by rcases Or_pos hg with ((rfl | rfl) | rfl) | rfl <;> exact ⟨rfl, lt_of_lt_of_le h (by rw [lvS_kcell]; decide)⟩
theorem mayWait_O₀ (c : Dev nD) (sm : SemLoc sig) (h : lvS sm < 1) : (levAts L lv : sProp 𝕄) ⊢ MayWait (c : Thread nD τ) sm () (O₀ c) :=
  mayWait_of c sm _ fun g u hg => by rcases O₀_pos hg with (((rfl | rfl) | rfl) | rfl) | rfl <;> exact ⟨rfl, lt_of_lt_of_le h (by rw [lvS_kcell]; decide)⟩

end Cert.MoE

end
-- ==== Proof.Rules.lean ====
/-
The steps of the body, each as one rule over the resources the run carries: whole buffers at their contents, row halves
of the slot buffers as `own`, the obligations with the record of waits hidden (`Ow`), and the records every device holds
of every cell (`recs`).
-/
module

public import proofs.«01_k».proof.Proof.Protocol

@[expose] public section

set_option maxRecDepth 100000

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The obligations of device `c`, whatever it has waited for. -/
def Ow (c : Dev nD) (O : CellTallies nD τ sig Unit) : sProp 𝕄 := iprop(∃ W, owes (c : Thread nD τ) O W)

/-- What is known of every cell of the protocol: its invariant, that its round 0 is reached, and the levels. -/
def recs (K : Dev nD × Fin 9 → ℕ) : sProp 𝕄 :=
  iprop(bigSep Finset.univ (fun ck => cellInv ER (Rd m) (K ck) (kcell ck)) ∗ bigSep Finset.univ (fun ck => reached ER (kcell ck) 0) ∗ (levAts L lv : sProp 𝕄))

instance bigSep_inv_persistent (K : Dev nD × Fin 9 → ℕ) :
    BI.Persistent (bigSep Finset.univ (fun ck => cellInv ER (Rd m) (K ck) (kcell ck)) : sProp 𝕄) := by infer_instance
instance bigSep_reached_persistent :
    BI.Persistent (bigSep Finset.univ (fun ck => reached ER (kcell ck) 0) : sProp 𝕄) := by infer_instance
instance recs_persistent (K : Dev nD × Fin 9 → ℕ) : BI.Persistent (recs m K) := by unfold recs; infer_instance

theorem recs_inv (K : Dev nD × Fin 9 → ℕ) (c : Dev nD) (k : Fin 9) :
    recs m K ⊢ cellInv ER (Rd m) (K (c, k)) (kcell (c, k)) := by
  have h : (bigSep Finset.univ (fun ck => cellInv ER (Rd m) (K ck) (kcell ck)) : sProp 𝕄) ⊢ cellInv ER (Rd m) (K (c, k)) (kcell (c, k)) :=
    bigSep_elim (Finset.mem_univ (c, k))
  unfold recs; iintro ⟨H, -, -⟩; iapply h; iexact H
theorem recs_reached (K : Dev nD × Fin 9 → ℕ) (c : Dev nD) (k : Fin 9) : recs m K ⊢ reached ER (kcell (c, k)) 0 := by
  have h : (bigSep Finset.univ (fun ck => reached ER (kcell ck) 0) : sProp 𝕄) ⊢ reached ER (kcell (c, k)) 0 :=
    bigSep_elim (Finset.mem_univ (c, k))
  unfold recs; iintro ⟨-, H, -⟩; iapply h; iexact H
theorem recs_lev (K : Dev nD × Fin 9 → ℕ) : recs m K ⊢ (levAts L lv : sProp 𝕄) := by
  unfold recs; iintro ⟨-, -, H⟩; iexact H

abbrev pts (c : Dev nD) (b : Ref sig .tc) (f : b.ty.Contents (Elt F)) : sProp 𝕄 := (((c : Thread nD τ).loc b) ↦{fullShare} f)

variable {α : Type}

abbrev WP (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

/-- A load of a whole buffer held at `f`: the program goes on at what the load's rectangle reads. -/
theorem load_full {Q : α → sProp 𝕄} (c : Dev nD) {s : Shape} {e : EltTy} (M : Memref sig .tc .vmem s e) {r : Rect s} {hl : M.view.LoadsAt r.toLoadRect}
    {k : (r.shape.Idx → Elt F e) → Prog (TpuEff nD τ sig (Elt F) Λ₀ .tc) α} (f : Buf (Elt F) (M.view.loc (c : Thread nD τ)))
    (X : r.shape.Idx → Elt F e) (hX : M.view.readAt (Elt F) r.toLoadRect f = X) :
    (M.view.loc (c : Thread nD τ) ↦{fullShare} f : sProp 𝕄)
      ⊢ iprop(((M.view.loc (c : Thread nD τ) ↦{fullShare} f) -∗ WP c (k X) Q) -∗ WP c (.op (.load M r.toLoadRect hl) k) Q) := by
  subst hX
  exact wp_load 𝒱₀ (c : Thread nD τ) none Set.univ (m := M) (Finset.subset_univ _)

/-- A store that leaves a whole buffer at `g`. -/
theorem store_full {Q : α → sProp 𝕄} (c : Dev nD) {s : Shape} {e : EltTy} (M : Memref sig .tc .vmem s e) {r : Rect s} {w : r.shape.Idx → Elt F e}
    {hx : (M.access r).Stores Finset.univ} {hm : Finset.univ = Finset.univ ∨ ∀ a, r.stride a = 1}
    {k : PUnit → Prog (TpuEff nD τ sig (Elt F) Λ₀ .tc) α} (f g : Buf (Elt F) (M.view.loc (c : Thread nD τ)))
    (hg : (M.access r).write (Elt F) f w Finset.univ = g) :
    (M.view.loc (c : Thread nD τ) ↦{fullShare} f : sProp 𝕄)
      ⊢ iprop(((M.view.loc (c : Thread nD τ) ↦{fullShare} g) -∗ WP c (k ⟨⟩) Q) -∗ WP c (.op (.store M r w Finset.univ hx hm) k) Q) := by
  subst hg
  exact wp_store 𝒱₀ (c : Thread nD τ) none Set.univ (m := M) (r := r) (Mk := Finset.univ) (Finset.subset_univ _)

/-- A load of a part of a memref held as its own slice. -/
theorem load_part {Q : α → sProp 𝕄} (c : Dev nD) {s : Shape} {e : EltTy} (M : Memref sig .tc .vmem s e) {r : Rect s} (hr : ∀ a, r.stride a = 1)
    {hl : M.view.LoadsAt r.toLoadRect} {k : (r.shape.Idx → Elt F e) → Prog (TpuEff nD τ sig (Elt F) Λ₀ .tc) α} (X : r.shape.Idx → Elt F e) :
    (owns (c : Thread nD τ) (M.slice r hr) fullShare X : sProp 𝕄)
      ⊢ iprop((owns (c : Thread nD τ) (M.slice r hr) fullShare X -∗ WP c (k X) Q) -∗ WP c (.op (.load M r.toLoadRect hl) k) Q) := by
  unfold owns
  iintro ⟨%f, %hf, H⟩ Hk
  subst hf
  iapply (wp_load_rect 𝒱₀ (c : Thread nD τ) none Set.univ (m := M) (r := r) (hl := hl) (S := (M.slice r hr).view.set) (Finset.Subset.refl _)) $$ H
  iintro H
  iapply Hk
  iexists f
  isplitr; · ipureintro; rfl
  iexact H

/-- A store to a part of a memref held as its own slice. -/
theorem store_part {Q : α → sProp 𝕄} (c : Dev nD) {s : Shape} {e : EltTy} (M : Memref sig .tc .vmem s e) {r : Rect s} (hr : ∀ a, r.stride a = 1)
    {w : r.shape.Idx → Elt F e} {hx : (M.access r).Stores Finset.univ} {hm : Finset.univ = Finset.univ ∨ ∀ a, r.stride a = 1}
    {k : PUnit → Prog (TpuEff nD τ sig (Elt F) Λ₀ .tc) α} (X : r.shape.Idx → Elt F e) :
    (owns (c : Thread nD τ) (M.slice r hr) fullShare X : sProp 𝕄)
      ⊢ iprop((owns (c : Thread nD τ) (M.slice r hr) fullShare w -∗ WP c (k ⟨⟩) Q) -∗ WP c (.op (.store M r w Finset.univ hx hm) k) Q) := by
  unfold owns
  iintro ⟨%f, %hf, H⟩ Hk
  iapply (wp_store 𝒱₀ (c : Thread nD τ) none Set.univ (m := M) (r := r) (Mk := Finset.univ) (S := (M.slice r hr).view.set) (Finset.Subset.refl _)) $$ H
  iintro H
  iapply Hk
  iexists ((M.access r).write (Elt F) f w Finset.univ)
  isplitr; · ipureintro; exact View.read_write_univ f w
  iexact H

/-! ## Local copies from the argument arrays -/

/-- A copy in flight from a memref `src` of a buffer held whole at `f` into the whole memref `dst`, leaving it at `X`. -/
def Copying (c : Dev nD) (sm : DmaSem sig) (N : ℕ) {sp sp' : Space} {s : Shape} {e : EltTy} (src : Memref sig .tc sp s e)
    (dst : Memref sig .tc sp' s e) (f : Buf (Elt F) (src.view.loc (c : Thread nD τ))) (X : Buf (Elt F) (dst.view.loc (c : Thread nD τ))) : sProp 𝕄 :=
  iprop(Flight EC (c : Thread nD τ) (.dma sm) () N
      iprop((dst.view.loc (c : Thread nD τ) ↦{fullShare} X) ∗ (src.view.loc (c : Thread nD τ) ↦[src.view.set]{fullShare} f))
    ∗ (src.view.loc (c : Thread nD τ) ↦[Finset.univ \ src.view.set]{fullShare} f))

theorem copy_start {Q : α → sProp 𝕄} (c : Dev nD) (sm : DmaSem sig) (N : ℕ) {sp sp' : Space} {s : Shape} {e : EltTy} (src : Memref sig .tc sp s e)
    (dst : Memref sig .tc sp' s e) (f : Buf (Elt F) (src.view.loc (c : Thread nD τ))) (fd X : Buf (Elt F) (dst.view.loc (c : Thread nD τ)))
    {hsrc : src.view.WordExact} {hdst : dst.view.WordExact}
    {hsem : DmaTarget.Typed sp (.dma sm) (.here dst : DmaTarget nD τ sig (.tc : Proc τ) sp' s e)}
    {k : PUnit → Prog (TpuEff nD τ sig (Elt F) Λ₀ .tc) α}
    (hN : dst.view.dmaCredit = N) (hN0 : 0 < N)
    (hX : dst.view.write (Elt F) fd (src.view.read (Elt F) f) Finset.univ = X) :
    iprop((src.view.loc (c : Thread nD τ) ↦{fullShare} f) ∗ (dst.view.loc (c : Thread nD τ) ↦{fullShare} fd) ∗ semVal ((c : Thread nD τ), .dma sm) 0)
      ⊢ iprop((Copying c sm N src dst f X -∗ WP c (k ⟨⟩) Q)
          -∗ WP c (.op (.enqueueDma src (.here dst : DmaTarget nD τ sig (.tc : Proc τ) sp' s e) (.dma sm) hsrc hdst hsem) k) Q) := by
  subst hX
  iintro ⟨Hs, Hd, Hz⟩ Hk
  ihave Hs' := (pointsTo_split_subset (Finset.subset_univ src.view.set)).1 $$ Hs
  icases Hs' with ⟨Hs, Hr⟩
  iapply (Transfers.wp_dmaLocal EC 𝒱₀ (c : Thread nD τ) none (src := src) (dst := dst) (sm := .dma sm) (hsrc := hsrc) (hdst := hdst) (hsem := hsem) (via := .same)
    () N hN hN0 (Finset.subset_univ _)) $$ [Hs Hd Hz]
  · isplitl [Hs]; · iexact Hs
    isplitl [Hd]; · iexact Hd
    iexact Hz
  iintro Hf
  iapply Hk
  unfold Copying
  isplitl [Hf]
  · iexact Hf
  iexact Hr

theorem copy_wait (K : Dev nD × Fin 9 → ℕ) {Q : α → sProp 𝕄} (c : Dev nD) (sm : DmaSem sig) (N : ℕ) {sp sp' : Space} {s : Shape} {e : EltTy} (src : Memref sig .tc sp s e)
    (dst : Memref sig .tc sp' s e) (f : Buf (Elt F) (src.view.loc (c : Thread nD τ))) (X : Buf (Elt F) (dst.view.loc (c : Thread nD τ)))
    {hsrc : src.view.WordExact} {hdst : dst.view.WordExact}
    {k : PUnit → Prog (TpuEff nD τ sig (Elt F) Λ₀ .tc) α} (hN : dst.view.dmaCredit = N) {O : CellTallies nD τ sig Unit}
    (hO : (levAts L lv : sProp 𝕄) ⊢ MayWait (c : Thread nD τ) (.dma sm) () O) :
    iprop(recs m K ∗ Copying c sm N src dst f X ∗ Ow c O)
      ⊢ iprop(((src.view.loc (c : Thread nD τ) ↦{fullShare} f) ∗ (dst.view.loc (c : Thread nD τ) ↦{fullShare} X)
              ∗ semVal ((c : Thread nD τ), .dma sm) 0 ∗ Ow c O -∗ WP c (k ⟨⟩) Q)
          -∗ WP c (.op (.waitDma2 sm src dst hsrc hdst) k) Q) := by
  have h1 := recs_lev m K
  have hO' : recs m K ⊢ _ := h1.trans hO
  unfold Copying Ow
  iintro ⟨#HR, ⟨Hf, Hr⟩, ⟨%W, HO⟩⟩ Hk
  iapply (Transfers.wp_waitLocalO EC 𝒱₀ (c : Thread nD τ) none (sem := sm) (srcw := src) (dstw := dst) (hsrc := hsrc) (hdst := hdst) () hN) $$ [Hf HO]
  · isplitl [Hf]; · iexact Hf
    isplitl [HO]; · iexact HO
    iapply hO'; iexact HR
  iintro ⟨⟨Hd, Hs⟩, Hz, HO⟩
  iapply Hk
  isplitl [Hs Hr]
  · iapply (pointsTo_split_subset (Finset.subset_univ src.view.set)).2
    isplitl [Hs] <;> iassumption
  isplitl [Hd]; · iexact Hd
  isplitl [Hz]; · iexact Hz
  iexists _; iexact HO

/-! ## The protocol's steps -/

/-- The barrier signal to the peer: it hands over the device's four landing halves. -/
theorem bar_signal (K : Dev nD × Fin 9 → ℕ) {Q : α → sProp 𝕄} (c n : Dev nD) (hn : n = peer c) {k : PUnit → Prog (TpuEff nD τ sig (Elt F) Λ₀ .tc) α} :
    iprop(recs m K ∗ Ow c (O₀ c) ∗ dutyTok ER (kcell (peer c, 0)) 0 () ∗ any c (lo xrM) ∗ any c (hi xrM) ∗ any c (lo yrM) ∗ any c (hi yrM))
      ⊢ iprop((Ow c (Or c) -∗ WP c (k ⟨⟩) Q) -∗ WP c (.op (.semSignal (Dev.tc n : Thread nD τ) barS 1) k) Q) := by
  subst hn
  unfold Ow
  iintro ⟨#HR, ⟨%W, HO⟩, Ht, H1, H2, H3, H4⟩ Hk
  iapply (Rounds.wp_signal 𝒱₀ ER (Rd m) (c : Thread nD τ) none (dst := (peer c : Thread nD τ)) (κ := K (peer c, 0))
      (d := ()) (mem_duties m (peer c, 0)) (amount_bar m (peer c)) () (Or c) rfl) $$ [HO Ht H1 H2 H3 H4]
  · isplitr; · iapply (recs_inv m K (peer c) 0); iexact HR
    isplitl [HO]; · iexact HO
    isplitl [Ht]; · iexact Ht
    isplitl [H1 H2 H3 H4]
    · iapply (Entails.of_eq (payload_eq m (peer c) 0).symm)
      dsimp only [pay]
      rw [peer_peer]
      isplitl [H1]; · iexact H1
      isplitl [H2]; · iexact H2
      isplitl [H3]; · iexact H3
      iexact H4
    · iapply (recs_reached m K (peer c) 0); iexact HR
  iintro HO
  iapply Hk
  iexists _; iexact HO

/-- A wait for the whole of one of the device's own cells: its payload, and the cell closed at zero. -/
theorem cell_wait (K : Dev nD × Fin 9 → ℕ) {Q : α → sProp 𝕄} (c : Dev nD) (k : Fin 9) (O : CellTallies nD τ sig Unit) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem k) (amt k) K')
    (hO : (levAts L lv : sProp 𝕄) ⊢ MayWait (c : Thread nD τ) (csem k) () O)
    {k' : PUnit → Prog (TpuEff nD τ sig (Elt F) Λ₀ .tc) α} :
    iprop(recs m K ∗ cred (tallyAt (kcell (c, k)) () (amt k)) ∗ Ow c O ∗ atPos ER (kcell (c, k)) 0 ∅ 0)
      ⊢ iprop((Ow c O ∗ pay m c k ∗ semVal (kcell (c, k)) 0 -∗ WP c (k' ⟨⟩) Q) -∗ WP c (.op w k') Q) := by
  have h1 := recs_lev m K
  have hO' : recs m K ⊢ _ := h1.trans hO
  unfold Ow
  iintro ⟨#HR, Hc, ⟨%W, HO⟩, Hat⟩ Hk
  iapply (Rounds.wp_wait_rest_token 𝒱₀ ER (Rd m) (c : Thread nD τ) none (κ := K (c, k)) hw (Set.mem_univ _) () (O := O) (W := W) (R := 0) (m := 0) (T := ∅)
      (by rw [Nat.zero_add]; exact (expect_eq m c k).symm)) $$ [Hc HO Hat]
  · isplitr; · iapply (recs_inv m K c k); iexact HR
    isplitl [Hc]; · iexact Hc
    isplitl [HO]; · iexact HO
    isplitr; · iapply hO'; iexact HR
    iexact Hat
  iintro ⟨HO, Hat, -, Hpay⟩
  ihave Hpay := (Entails.of_eq (rest_eq m c k)) $$ Hpay
  imod (Rounds.cell_close ER (Rd m) (Set.mem_univ (K (c, k))) (fun h => h) (R := 0 + 1) (duties_later m (kcell (c, k)))) $$ [Hat] with Hz
  · isplitr; · iapply (recs_inv m K c k); iexact HR
    iexact Hat
  iapply Hk
  isplitl [HO]; · iexists _; iexact HO
  isplitl [Hpay]; · iexact Hpay
  iexact Hz

/-- A transfer of a row half to the peer. -/
theorem half_send (K : Dev nD × Fin 9 → ℕ) {Q : α → sProp 𝕄} (c n : Dev nD) (hn : n = peer c) (kS kR : Fin 9) (hS0 : kS ≠ 0) (hR0 : kR ≠ 0) {sS sR : DmaSem sig}
    (hS : csem kS = .dma sS) (hR : csem kR = .dma sR) (M M' : Memref sig .tc .vmem S288x1024 .bf16) (X : S288x1024.Idx → Elt F .bf16)
    (hpS : own c M X ⊢ pay m c kS) (hpR : own (peer c) M' X ⊢ pay m (peer c) kR) (hN : M'.view.dmaCredit = N)
    (O O' : CellTallies nD τ sig Unit) (hO : O' = O + tallyAt (kcell (peer c, kR)) () N)
    {hsc : (M' : Memref sig (Dev.tc n : Thread nD τ).2.kind .vmem S288x1024 .bf16).view.ref.isScScratch = false}
    {hsrc : M.view.WordExact} {hdst : M'.view.WordExact}
    {hsem : DmaTarget.Typed .vmem (.dma sR) (.remote (Dev.tc n : Thread nD τ) M' (.dma sS) hsc : DmaTarget nD τ sig (.tc : Proc τ) .vmem S288x1024 .bf16)}
    {k : PUnit → Prog (TpuEff nD τ sig (Elt F) Λ₀ .tc) α} :
    iprop(recs m K ∗ own c M X ∗ any (peer c) M' ∗ Ow c O' ∗ dutyTok ER (kcell (c, kS)) 0 () ∗ dutyTok ER (kcell (peer c, kR)) 0 ())
      ⊢ iprop((cred (tallyAt (kcell (c, kS)) () (amt kS)) ∗ Ow c O -∗ WP c (k ⟨⟩) Q)
          -∗ WP c (.op (.enqueueDma M (.remote (Dev.tc n : Thread nD τ) M' (.dma sS) hsc : DmaTarget nD τ sig (.tc : Proc τ) .vmem S288x1024 .bf16) (.dma sR) hsrc hdst hsem) k) Q) := by
  subst hn
  have hkS : kcell (c, kS) = ((c : Thread nD τ), SemLoc.dma sS) := by unfold kcell; rw [hS]
  have hkR : kcell (peer c, kR) = ((peer c : Thread nD τ), SemLoc.dma sR) := by unfold kcell; rw [hR]
  have haS : amt kS = N := by unfold amt; rw [if_neg hS0]
  have eS := payload_eq m c kS
  have eR := payload_eq m (peer c) kR
  have dS := mem_duties m (c, kS)
  have dR := mem_duties m (peer c, kR)
  have nS := amount_dma m c kS hS0
  have nR := amount_dma m (peer c) kR hR0
  have iS := recs_inv m K c kS
  have iR := recs_inv m K (peer c) kR
  have rS := recs_reached m K c kS
  have rR := recs_reached m K (peer c) kR
  rw [haS]
  rw [hkS] at eS dS nS iS rS ⊢
  rw [hkR] at eR dR nR iR rR hO ⊢
  unfold Ow
  iintro ⟨#HR, Hs, ⟨%Y, Hd⟩, ⟨%W, HO⟩, HtS, HtR⟩ Hk
  unfold own owns
  icases Hs with ⟨%fs, %hfs, Hs⟩
  icases Hd with ⟨%fd, %hfd, Hd⟩
  subst hfs
  iapply (Rounds.wp_send_pointsTo 𝒱₀ ER (Rd m) (c : Thread nD τ) none (c' := (peer c : Thread nD τ)) (src := M) (dst := M') (sS := .dma sS) (sem := .dma sR)
      (κ₁ := K (c, kS)) (κ₂ := K (peer c, kR)) (q := fullShare) (fs := fs) (fd := fd)
      (r₁ := 0) (r₂ := 0) (d₁ := ()) (d₂ := ()) dS dR () () N hN nS nR O hO (W := W)
      ((owns_intro (c : Thread nD τ) M fullShare fs).trans (hpS.trans (Entails.of_eq eS.symm)))
      (((owns_intro (peer c : Thread nD τ) M' fullShare _).trans (Entails.of_eq (by rw [View.read_write_univ]))).trans
        (hpR.trans (Entails.of_eq eR.symm)))) $$ [Hs Hd HO HtS HtR]
  · isplitr; · iapply iS; iexact HR
    isplitr; · iapply iR; iexact HR
    isplitl [Hs]; · iexact Hs
    isplitl [Hd]; · iexact Hd
    isplitl [HO]; · iexact HO
    isplitl [HtS]; · iexact HtS
    isplitr; · iapply rS; iexact HR
    isplitl [HtR]; · iexact HtR
    iapply rR; iexact HR
  iintro ⟨Hc, HO⟩
  iapply Hk
  isplitl [Hc]; · iexact Hc
  iexists _; iexact HO

end Cert.MoE

end
-- ==== Proof.Body.lean ====
/-
The body of the kernel at a symbolic device, one theorem per part of the printed body, each executed one rule per effect
in program order, and the whole body from them.
-/
module

public import proofs.«01_k».proof.Proof.Rules

@[expose] public section

set_option maxRecDepth 100000
set_option maxHeartbeats 1000000

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 9 → ℕ)

/-! ## The resources by short names -/

/-- The device's place at the start of its own cell `k`; the credit it waits there with; the duty of a cell; a counter at zero. -/
abbrev atc (c : Dev nD) (k : Fin 9) : sProp 𝕄 := atPos ER (kcell (c, k)) 0 ∅ 0
abbrev crc (c : Dev nD) (k : Fin 9) : sProp 𝕄 := cred (tallyAt (kcell (c, k)) () (amt k))
abbrev tkc (c : Dev nD) (k : Fin 9) : sProp 𝕄 := dutyTok ER (kcell (c, k)) 0 ()
abbrev zsm (c : Dev nD) (s : DmaSem sig) : sProp 𝕄 := semVal ((c : Thread nD τ), .dma s) 0
abbrev zc (c : Dev nD) (k : Fin 9) : sProp 𝕄 := semVal (kcell (c, k)) 0
/-- A whole memref's buffer at contents `f`. -/
abbrev mpts (c : Dev nD) {sp : Space} {s : Shape} {e : EltTy} (M : Memref sig .tc sp s e) (f : Buf (Elt F) (M.view.loc (c : Thread nD τ))) : sProp 𝕄 :=
  (M.view.loc (c : Thread nD τ) ↦{fullShare} f)

abbrev Vx (c : Dev nD) : Buf (Elt F) (xM.view.loc (c : Thread nD τ)) := m ((c : Thread nD τ).loc main_arg0)
abbrev V1 (c : Dev nD) : Buf (Elt F) (g1M.view.loc (c : Thread nD τ)) := m ((c : Thread nD τ).loc main_arg2)
abbrev V2 (c : Dev nD) : Buf (Elt F) (g2M.view.loc (c : Thread nD τ)) := m ((c : Thread nD τ).loc main_arg3)

abbrev Nx : ℕ := xvM.view.dmaCredit
abbrev N1 : ℕ := w1fM.view.dmaCredit
abbrev N2 : ℕ := w2fM.view.dmaCredit

abbrev cpX (c : Dev nD) : sProp 𝕄 := Copying c xS Nx xM xvM (Vx m c) (xAt m c)
abbrev cp10 (c : Dev nD) : sProp 𝕄 := Copying c ws0 N1 w1s0 w1fM (V1 m c) (w1At0 m c)
abbrev cp11 (c : Dev nD) : sProp 𝕄 := Copying c ws0 N1 w1s1 w1fM (V1 m c) (w1At1 m c)
abbrev cp20 (c : Dev nD) : sProp 𝕄 := Copying c ws1 N2 w2s0 w2fM (V2 m c) (w2At0 m c)
abbrev cp21 (c : Dev nD) : sProp 𝕄 := Copying c ws1 N2 w2s1 w2fM (V2 m c) (w2At1 m c)

theorem hz : (![0, 0] : Fin 2 → Nat) = fun _ => 0 := funext fun a => by fin_cases a <;> rfl

theorem mayWait_zero' (c : Dev nD) (sm : SemLoc sig) : (levAts L lv : sProp 𝕄) ⊢ MayWait (c : Thread nD τ) sm () 0 := by
  rw [MayWait_zero]; iintro -; iempintro

/-! ## The row halves of a slot buffer -/

theorem mem_lo (i : S576x1024.Idx) : i ∈ rlo.set ↔ (i 0).val < 288 := by
  rw [Rect.mem_set_unit]
  constructor
  · intro h; have := (h 0).2; simpa using this
  · intro h a
    fin_cases a
    · exact ⟨Nat.zero_le _, by simpa using h⟩
    · exact ⟨Nat.zero_le _, by have := (i 1).isLt; simpa using this⟩
theorem mem_hi (i : S576x1024.Idx) : i ∈ rhi.set ↔ 288 ≤ (i 0).val := by
  rw [Rect.mem_set_unit]
  constructor
  · intro h; have := (h 0).1; simpa using this
  · intro h a
    fin_cases a
    · exact ⟨by simpa using h, by have := (i 0).isLt; simpa using this⟩
    · exact ⟨Nat.zero_le _, by have := (i 1).isLt; simpa using this⟩

theorem rhi_set : (rhi.set : Finset S576x1024.Idx) = Finset.univ \ rlo.set := by
  ext i
  rw [mem_hi, Finset.mem_sdiff, mem_lo]
  constructor
  · intro h; exact ⟨Finset.mem_univ _, by omega⟩
  · intro h; have := h.2; omega

theorem hi_set (M : Memref sig .tc .vmem S576x1024 .bf16) : (hi M).view.set = M.view.set \ (lo M).view.set := by
  show (M.view.slice rhi).set = M.view.set \ (M.view.slice rlo).set
  rw [View.set_slice, View.set_slice, rhi_set]
  ext x
  simp only [View.set, Finset.mem_map, Finset.mem_sdiff, Finset.mem_univ, true_and]
  constructor
  · rintro ⟨i, hi, rfl⟩
    exact ⟨⟨i, rfl⟩, fun ⟨j, hj, e⟩ => hi ((M.view.emb.injective e) ▸ hj)⟩
  · rintro ⟨⟨i, rfl⟩, h⟩
    exact ⟨i, fun hi => h ⟨i, hi, rfl⟩, rfl⟩

theorem glue_lo {V : Type} (a b : S288x1024.Idx → V) (j : S288x1024.Idx) : glue a b (rlo.emb j) = a j := by
  have h : ∃ j' : S288x1024.Idx, rlo.emb j' = rlo.emb j := ⟨j, rfl⟩
  unfold glue
  rw [dif_pos h]
  exact congrArg a (rlo.emb.injective h.choose_spec)
theorem glue_hi {V : Type} (a b : S288x1024.Idx → V) (j : S288x1024.Idx) : glue a b (rhi.emb j) = b j := by
  have h : ∃ j' : S288x1024.Idx, rhi.emb j' = rhi.emb j := ⟨j, rfl⟩
  have h' : ¬ ∃ j' : S288x1024.Idx, rlo.emb j' = rhi.emb j := by
    rintro ⟨j', e⟩
    have h1 := (mem_lo (rlo.emb j')).1 (rlo.idx_mem j')
    have h2 := (mem_hi (rhi.emb j)).1 (rhi.idx_mem j)
    rw [e] at h1; omega
  unfold glue
  rw [dif_neg h', dif_pos h]
  exact congrArg b (rhi.emb.injective h.choose_spec)

theorem overlay_glue (M : Memref sig .tc .vmem S576x1024 .bf16) (c : Dev nD) (X : S288x1024.Idx → Elt F .bf16) (f : M.view.ty.Contents (Elt F)) :
    rlo.overlay (M.view.read (Elt F) f) X = glue (V := Elt F .bf16) X ((hi M).view.read (Elt F) f) := by
  funext i
  by_cases h : i ∈ rlo.set
  · obtain ⟨j, rfl⟩ := rlo.exists_idx_of_mem h
    exact (rlo.overlay_emb _ _ j).trans (glue_lo X _ j).symm
  · rw [Rect.overlay_of_not_mem _ _ _ h]
    have h2 : i ∈ rhi.set := by rw [rhi_set]; exact Finset.mem_sdiff.2 ⟨Finset.mem_univ _, h⟩
    obtain ⟨j, rfl⟩ := rhi.exists_idx_of_mem h2
    exact (glue_hi X ((hi M).view.read (Elt F) f) j).symm

theorem owns_join (c : Dev nD) (M : Memref sig .tc .vmem S576x1024 .bf16) (X Y : S288x1024.Idx → Elt F .bf16) :
    iprop(own c (lo M) X ∗ own c (hi M) Y) ⊢ (owns (c : Thread nD τ) M fullShare (glue (V := Elt F .bf16) X Y) : sProp 𝕄) := by
  iintro ⟨H0, H1⟩
  ihave H1 := (show own c (hi M) Y ⊢ iprop(∃ g, ⌜(hi M).view.read (Elt F) g = Y⌝ ∗ (hi M).view.loc (c : Thread nD τ) ↦[(hi M).view.set]{fullShare} g) from .rfl) $$ H1
  icases H1 with ⟨%f, %hf, H1⟩
  subst hf
  rw [← overlay_glue M c X f, hi_set M]
  iapply (owns_slice_join (c : Thread nD τ) M fullShare rlo (fun _ => rfl) X f)
  isplitl [H0]; · iexact H0
  iexact H1

theorem owns_halves (c : Dev nD) (M : Memref sig .tc .vmem S576x1024 .bf16) (X : S576x1024.Idx → Elt F .bf16) :
    (owns (c : Thread nD τ) M fullShare X : sProp 𝕄) ⊢ iprop(any c (lo M) ∗ any c (hi M)) := by
  iintro H
  ihave H := (owns_slice_split (c : Thread nD τ) M fullShare rlo (fun _ => rfl) X) $$ H
  icases H with ⟨H0, %f, -, H1⟩
  isplitl [H0]; · iexists _; iexact H0
  rw [← hi_set M]
  iexists _
  iapply (owns_intro (c : Thread nD τ) (hi M) fullShare f)
  iexact H1

/-- The end of a part. -/
theorem ret_at {α : Type} {Q : α → sProp 𝕄} (c : Dev nD) (x y : α) (h : x = y) : Q y ⊢ WP c (.ret x) Q := by
  subst h
  unfold WP
  rw [wp_ret]; iintro H; imodintro; iexact H

/-- The wait for a transfer on one of the device's own cells. -/
theorem dma_wait {α : Type} {Q : α → sProp 𝕄} (c : Dev nD) (k : Fin 9) (hk : k ≠ 0) (O : CellTallies nD τ sig Unit) (sm : DmaSem sig)
    (src dst : Memref sig .tc .vmem S288x1024 .bf16) (hs : csem k = .dma sm) (hN : dst.view.dmaCredit = N)
    (hO : (levAts L lv : sProp 𝕄) ⊢ MayWait (c : Thread nD τ) (csem k) () O)
    {hsrc : src.view.WordExact} {hdst : dst.view.WordExact} {k' : PUnit → Prog (TpuEff nD τ sig (Elt F) Λ₀ .tc) α} :
    iprop(recs m K ∗ crc c k ∗ Ow c O ∗ atc c k)
      ⊢ iprop((Ow c O ∗ pay m c k ∗ zc c k -∗ WP c (k' ⟨⟩) Q) -∗ WP c (.op (.waitDma2 sm src dst hsrc hdst) k') Q) := by
  have ha : amt k = N := by unfold amt; rw [if_neg hk]
  refine cell_wait m K c k O (fun K' => ?_) hO
  rw [hs, ha, ← hN]
  exact wpE_waitDma2_eq 𝒱₀ (c : Thread nD τ) none Set.univ K'

/-- The three copies from the arguments are started, the peers pass the barrier, the assignments are read. -/
theorem part1 (c : Dev nD) (Kt : _ → sProp 𝕄) :
    iprop(recs m K ∗ Ow c (O₀ c) ∗ tkc (peer c) 0 ∗ any c (lo xrM) ∗ any c (hi xrM) ∗ any c (lo yrM) ∗ any c (hi yrM) ∗ atc c 0 ∗ crc c 0 ∗ mpts c xM (Vx m c) ∗ (∃ f, mpts c xvM f) ∗ zsm c xS ∗ mpts c g1M (V1 m c) ∗ (∃ f, mpts c w1fM f) ∗ zsm c ws0 ∗ mpts c g2M (V2 m c) ∗ (∃ f, mpts c w2fM f) ∗ zsm c ws1 ∗ mpts c aM (aAt m c)
        ∗ (Ow c (Or c) ∗ zc c 0 ∗ any (peer c) (lo xrM) ∗ any (peer c) (hi xrM) ∗ any (peer c) (lo yrM) ∗ any (peer c) (hi yrM) ∗ cpX m c ∗ cp10 m c ∗ cp20 m c ∗ mpts c aM (aAt m c) -∗ Kt ⟨c, pxAt c, Scalar.subi 1#32 (pxAt c), Scalar.remsi (Scalar.divsi (Dev.word c) 4#32) 4#32, Scalar.remsi (Scalar.divsi (Dev.word c) 1#32) 4#32, v26 m c, v29 m c⟩))
      ⊢ WP c (k0_part1 xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13) Kt := by
  rw [k0_part1_eq_skeleton]; unfold k0_part1_skel
  simp only [semSignalWord, semWaitWord, Prog.lift, Prog.bind_op, Prog.bind_ret, Prog.pure_eq_ret, wp_deviceId]
  iintro ⟨#HR, HO, Hp0, Hxr0, Hxr1, Hyr0, Hyr1, Ha0, Hc0, Hx, ⟨%fHxv, Hxv⟩, Hzx, H1, ⟨%fHw1f, Hw1f⟩, Hzw0, H2, ⟨%fHw2f, Hw2f⟩, Hzw1, Ha, Hk⟩
  iapply (copy_start c xS Nx xM xvM (Vx m c) _ (xAt m c) rfl (View.dmaCredit_pos _ (by decide)) (View.write_whole_univ _ _ _)) $$ [Hx Hxv Hzx]
  · isplitl [Hx]; · iexact Hx
    isplitl [Hxv]; · iexact Hxv
    iexact Hzx
  iintro HcX
  iapply (copy_start c ws0 N1 w1s0 w1fM (V1 m c) _ (w1At0 m c) rfl (View.dmaCredit_pos _ (by decide)) (View.write_whole_univ _ _ _)) $$ [H1 Hw1f Hzw0]
  · isplitl [H1]; · iexact H1
    isplitl [Hw1f]; · iexact Hw1f
    iexact Hzw0
  iintro Hc10
  iapply (copy_start c ws1 N2 w2s0 w2fM (V2 m c) _ (w2At0 m c) rfl (View.dmaCredit_pos _ (by decide)) (View.write_whole_univ _ _ _)) $$ [H2 Hw2f Hzw1]
  · isplitl [H2]; · iexact H2
    isplitl [Hw2f]; · iexact Hw2f
    iexact Hzw1
  iintro Hc20
  iapply (bar_signal m K c _ (dev1_eq c)) $$ [HO Hp0 Hxr0 Hxr1 Hyr0 Hyr1]
  · isplitr; · iexact HR
    isplitl [HO]; · iexact HO
    isplitl [Hp0]; · iexact Hp0
    isplitl [Hxr0]; · iexact Hxr0
    isplitl [Hxr1]; · iexact Hxr1
    isplitl [Hyr0]; · iexact Hyr0
    iexact Hyr1
  iintro HO
  iapply (cell_wait m K c 0 (Or c) (wpE_semWait_eq 𝒱₀ (c : Thread nD τ) none Set.univ) (mayWait_Or c (csem 0) (by decide))) $$ [Hc0 HO Ha0]
  · isplitr; · iexact HR
    isplitl [Hc0]; · iexact Hc0
    isplitl [HO]; · iexact HO
    iexact Ha0
  iintro ⟨HO, Hpay, Hz0⟩
  dsimp only [pay]
  icases Hpay with ⟨Pxr0, Pxr1, Pyr0, Pyr1⟩
  iapply (load_full c aM (aAt m c) (aAt m c) (Memref.readAt_unit_zero (Elt F) cc0_stg0_0 hz _ _)) $$ Ha; iintro Ha
  iapply (ret_at c _ (⟨c, pxAt c, Scalar.subi 1#32 (pxAt c), Scalar.remsi (Scalar.divsi (Dev.word c) 4#32) 4#32, Scalar.remsi (Scalar.divsi (Dev.word c) 1#32) 4#32, v26 m c, v29 m c⟩ : Σ' (d0 : Dev nD) (v2 : BitVec 32) (v3 : BitVec 32) (v6 : BitVec 32) (v9 : BitVec 32) (v26 : IVec S1024x1 32), IVec S1024x4 1) rfl)
  iapply Hk
  isplitl [HO]; · iexact HO
  isplitl [Hz0]; · iexact Hz0
  isplitl [Pxr0]; · iexact Pxr0
  isplitl [Pxr1]; · iexact Pxr1
  isplitl [Pyr0]; · iexact Pyr0
  isplitl [Pyr1]; · iexact Pyr1
  isplitl [HcX]; · iexact HcX
  isplitl [Hc10]; · iexact Hc10
  isplitl [Hc20]; · iexact Hc20
  iexact Ha

/-- The tokens arrive; those for the peer's first expert are gathered. -/
theorem part2 (c : Dev nD) (v3 v6 : BitVec 32) (Kt : _ → sProp 𝕄) :
    iprop(recs m K ∗ Ow c (Or c) ∗ cpX m c ∗ any c (lo xgM)
        ∗ (Ow c (Or c) ∗ mpts c xM (Vx m c) ∗ mpts c xvM (xAt m c) ∗ zsm c xS ∗ own c (lo xgM) (xg0 m c) -∗ Kt ⟨v52 m c, v54 m c, v55, Scalar.addi (Scalar.addi 0#32 (Scalar.muli v3 16#32)) (Scalar.muli v6 4#32)⟩))
      ⊢ WP c (k0_part2 xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13 (pxAt c) v3 v6 (v26 m c) (v29 m c)) Kt := by
  rw [k0_part2_eq_skeleton]; unfold k0_part2_skel
  simp only [semSignalWord, semWaitWord, Prog.lift, Prog.bind_op, Prog.bind_ret, Prog.pure_eq_ret, wp_deviceId]
  iintro ⟨#HR, HOr, HcX, ⟨%fHg0, Hg0⟩, Hk⟩
  iapply (copy_wait m K c xS Nx xM xvM (Vx m c) (xAt m c) rfl (mayWait_Or c (.dma xS) (by decide))) $$ [HcX HOr]
  · isplitr; · iexact HR
    isplitl [HcX]; · iexact HcX
    iexact HOr
  iintro ⟨Hx, Hxv, Hzx, HOr⟩
  iapply (load_full c xvM (xAt m c) (xAt m c) (Memref.readAt_unit_zero (Elt F) cc0_scratch0 hz _ _)) $$ Hxv; iintro Hxv
  iapply (load_part c xgM (r := rlo) (fun _ => rfl) fHg0) $$ Hg0; iintro Hg0
  iapply (store_part c xgM (r := rlo) (fun _ => rfl) fHg0) $$ Hg0; iintro Gg0
  iapply (ret_at c _ (⟨v52 m c, v54 m c, v55, Scalar.addi (Scalar.addi 0#32 (Scalar.muli v3 16#32)) (Scalar.muli v6 4#32)⟩ : Σ' (v52 : IVec S1024x1 32) (v54 : FVec F S1024x1024 .bf16) (v55 : IVec S1024x288 32), BitVec 32) rfl)
  iapply Hk
  isplitl [HOr]; · iexact HOr
  isplitl [Hx]; · iexact Hx
  isplitl [Hxv]; · iexact Hxv
  isplitl [Hzx]; · iexact Hzx
  iexact Gg0

/-- Both gathered halves are sent to the peer. -/
theorem part3 (c : Dev nD) (v3 v6 v9 v71 : BitVec 32) (Kt : _ → sProp 𝕄) :
    iprop(recs m K ∗ Ow c (Or c) ∗ own c (lo xgM) (xg0 m c) ∗ any (peer c) (lo xrM) ∗ tkc c 1 ∗ tkc (peer c) 5 ∗ any c (hi xgM) ∗ any (peer c) (hi xrM) ∗ tkc c 3 ∗ tkc (peer c) 7
        ∗ (Ow c (O1 c) ∗ crc c 1 ∗ crc c 3 -∗ Kt (v109 m c)))
      ⊢ WP c (k0_part3 xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13 c v3 v6 v9 (v52 m c) (v54 m c) v55 v71) Kt := by
  rw [k0_part3_eq_skeleton]; unfold k0_part3_skel
  simp only [semSignalWord, semWaitWord, Prog.lift, Prog.bind_op, Prog.bind_ret, Prog.pure_eq_ret, wp_deviceId]
  iintro ⟨#HR, HOr, Gg0, Pxr0, Ht1, Hp5, ⟨%fHg1, Hg1⟩, Pxr1, Ht3, Hp7, Hk⟩
  iapply (half_send m K c _ (dev2_eq c) 1 5 (by decide) (by decide) rfl rfl (lo xgM) (lo xrM) (xg0 m c) (by dsimp only [pay]; iintro H; iexists _; iexact H) (by dsimp only [pay]; rw [peer_peer]) rfl (O2 c) (Or c) rfl) $$ [Gg0 Pxr0 HOr Ht1 Hp5]
  · isplitr; · iexact HR
    isplitl [Gg0]; · iexact Gg0
    isplitl [Pxr0]; · iexact Pxr0
    isplitl [HOr]; · iexact HOr
    isplitl [Ht1]; · iexact Ht1
    iexact Hp5
  iintro ⟨Hc1, HO⟩
  iapply (load_part c xgM (r := rhi) (fun _ => rfl) fHg1) $$ Hg1; iintro Hg1
  iapply (store_part c xgM (r := rhi) (fun _ => rfl) fHg1) $$ Hg1; iintro Gg1
  iapply (half_send m K c _ (dev3_eq c) 3 7 (by decide) (by decide) rfl rfl (hi xgM) (hi xrM) (xg1 m c) (by dsimp only [pay]; iintro H; iexists _; iexact H) (by dsimp only [pay]; rw [peer_peer]) rfl (O1 c) (O2 c) rfl) $$ [Gg1 Pxr1 HO Ht3 Hp7]
  · isplitr; · iexact HR
    isplitl [Gg1]; · iexact Gg1
    isplitl [Pxr1]; · iexact Pxr1
    isplitl [HO]; · iexact HO
    isplitl [Ht3]; · iexact Ht3
    iexact Hp7
  iintro ⟨Hc3, HO⟩
  iapply (ret_at c _ (v109 m c) rfl)
  iapply Hk
  isplitl [HO]; · iexact HO
  isplitl [Hc1]; · iexact Hc1
  iexact Hc3

/-- The first expert's weights arrive and are cast. -/
theorem part4 (c : Dev nD) (Kt : _ → sProp 𝕄) :
    iprop(recs m K ∗ Ow c (O1 c) ∗ cp10 m c ∗ cp20 m c ∗ (∃ f, mpts c w1bM f) ∗ (∃ f, mpts c w2bM f)
        ∗ (Ow c (O1 c) ∗ mpts c g1M (V1 m c) ∗ mpts c w1fM (w1At0 m c) ∗ zsm c ws0 ∗ mpts c g2M (V2 m c) ∗ mpts c w2fM (w2At0 m c) ∗ zsm c ws1 ∗ mpts c w1bM (w1b0 m c) ∗ mpts c w2bM (w2b0 m c) -∗ Kt ⟨v111 m c, v118 m c, v127 m c⟩))
      ⊢ WP c (k0_part4 xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13 (v52 m c) (v54 m c) v55 (v109 m c)) Kt := by
  rw [k0_part4_eq_skeleton]; unfold k0_part4_skel
  simp only [semSignalWord, semWaitWord, Prog.lift, Prog.bind_op, Prog.bind_ret, Prog.pure_eq_ret, wp_deviceId]
  iintro ⟨#HR, HO1, Hc10, Hc20, ⟨%fHw1b, Hw1b⟩, ⟨%fHw2b, Hw2b⟩, Hk⟩
  iapply (copy_wait m K c ws0 N1 w1s0 w1fM (V1 m c) (w1At0 m c) rfl (mayWait_O1 c (.dma ws0) (by decide))) $$ [Hc10 HO1]
  · isplitr; · iexact HR
    isplitl [Hc10]; · iexact Hc10
    iexact HO1
  iintro ⟨H1, Hw1f, Hzw0, HO1⟩
  iapply (copy_wait m K c ws1 N2 w2s0 w2fM (V2 m c) (w2At0 m c) rfl (mayWait_O1 c (.dma ws1) (by decide))) $$ [Hc20 HO1]
  · isplitr; · iexact HR
    isplitl [Hc20]; · iexact Hc20
    iexact HO1
  iintro ⟨H2, Hw2f, Hzw1, HO1⟩
  iapply (load_full c w1fM (w1At0 m c) (w1At0 m c) (Memref.readAt_unit_zero (Elt F) cc0_scratch6 hz _ _)) $$ Hw1f; iintro Hw1f
  iapply (load_full c w1bM _ _ (Memref.readAt_unit_zero (Elt F) cc0_scratch8 hz _ _)) $$ Hw1b; iintro Hw1b
  iapply (store_full c w1bM _ (w1b0 m c) (Memref.write_access_unit_zero_univ (Elt F) cc0_scratch8 hz _ _ _)) $$ Hw1b; iintro Hw1b
  iapply (load_full c w2fM (w2At0 m c) (w2At0 m c) (Memref.readAt_unit_zero (Elt F) cc0_scratch7 hz _ _)) $$ Hw2f; iintro Hw2f
  iapply (load_full c w2bM _ _ (Memref.readAt_unit_zero (Elt F) cc0_scratch9 hz _ _)) $$ Hw2b; iintro Hw2b
  iapply (store_full c w2bM _ (w2b0 m c) (Memref.write_access_unit_zero_univ (Elt F) cc0_scratch9 hz _ _ _)) $$ Hw2b; iintro Hw2b
  iapply (ret_at c _ (⟨v111 m c, v118 m c, v127 m c⟩ : Σ' (v111 : FVec F S576x1024 .bf16) (v118 : FVec F S1024x288 .bf16), FVec F S1024x288 .bf16) rfl)
  iapply Hk
  isplitl [HO1]; · iexact HO1
  isplitl [H1]; · iexact H1
  isplitl [Hw1f]; · iexact Hw1f
  isplitl [Hzw0]; · iexact Hzw0
  isplitl [H2]; · iexact H2
  isplitl [Hw2f]; · iexact Hw2f
  isplitl [Hzw1]; · iexact Hzw1
  isplitl [Hw1b]; · iexact Hw1b
  iexact Hw2b

/-- The second expert's weights are fetched while the device's own tokens go through its first expert. -/
theorem part5 (c : Dev nD) (v3 v6 : BitVec 32) (Kt : _ → sProp 𝕄) :
    iprop(recs m K ∗ Ow c (O1 c) ∗ mpts c g1M (V1 m c) ∗ mpts c w1fM (w1At0 m c) ∗ zsm c ws0 ∗ mpts c g2M (V2 m c) ∗ mpts c w2fM (w2At0 m c) ∗ zsm c ws1 ∗ mpts c w1bM (w1b0 m c) ∗ mpts c w2bM (w2b0 m c) ∗ any c (lo ylM) ∗ crc c 1 ∗ atc c 1
        ∗ (Ow c (O1 c) ∗ cp11 m c ∗ cp21 m c ∗ mpts c w1bM (w1b0 m c) ∗ mpts c w2bM (w2b0 m c) ∗ own c (lo ylM) (yl0 m c) ∗ any c (lo xgM) ∗ zc c 1 -∗ Kt ⟨Scalar.addi 0#32 (Scalar.muli v3 16#32), Scalar.muli v6 4#32⟩))
      ⊢ WP c (k0_part5 xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13 v3 v6 (v111 m c)) Kt := by
  rw [k0_part5_eq_skeleton]; unfold k0_part5_skel
  simp only [semSignalWord, semWaitWord, Prog.lift, Prog.bind_op, Prog.bind_ret, Prog.pure_eq_ret, wp_deviceId]
  iintro ⟨#HR, HO1, H1, Hw1f0, Hzw0, H2, Hw2f0, Hzw1, Hw1b0, Hw2b0, ⟨%fHl0, Hl0⟩, Hc1, Ha1, Hk⟩
  iapply (copy_start c ws0 N1 w1s1 w1fM (V1 m c) _ (w1At1 m c) rfl (View.dmaCredit_pos _ (by decide)) (View.write_whole_univ _ _ _)) $$ [H1 Hw1f0 Hzw0]
  · isplitl [H1]; · iexact H1
    isplitl [Hw1f0]; · iexact Hw1f0
    iexact Hzw0
  iintro Hc11
  iapply (copy_start c ws1 N2 w2s1 w2fM (V2 m c) _ (w2At1 m c) rfl (View.dmaCredit_pos _ (by decide)) (View.write_whole_univ _ _ _)) $$ [H2 Hw2f0 Hzw1]
  · isplitl [H2]; · iexact H2
    isplitl [Hw2f0]; · iexact Hw2f0
    iexact Hzw1
  iintro Hc21
  iapply (load_full c w1bM (w1b0 m c) (w1b0 m c) (Memref.readAt_unit_zero (Elt F) cc0_scratch8 hz _ _)) $$ Hw1b0; iintro Hw1b0
  iapply (load_full c w2bM (w2b0 m c) (w2b0 m c) (Memref.readAt_unit_zero (Elt F) cc0_scratch9 hz _ _)) $$ Hw2b0; iintro Hw2b0
  iapply (load_part c ylM (r := rlo) (fun _ => rfl) fHl0) $$ Hl0; iintro Hl0
  iapply (store_part c ylM (r := rlo) (fun _ => rfl) fHl0) $$ Hl0; iintro Gl0
  iapply (dma_wait m K c 1 (by decide) (O1 c) ss0 (lo xrM) (lo xgM) rfl rfl (mayWait_O1 c (csem 1) (by decide))) $$ [Hc1 HO1 Ha1]
  · isplitr; · iexact HR
    isplitl [Hc1]; · iexact Hc1
    isplitl [HO1]; · iexact HO1
    iexact Ha1
  iintro ⟨HO1, Hg0, Hz1⟩
  dsimp only [pay]
  iapply (ret_at c _ ⟨Scalar.addi 0#32 (Scalar.muli v3 16#32), Scalar.muli v6 4#32⟩ rfl)
  iapply Hk
  isplitl [HO1]; · iexact HO1
  isplitl [Hc11]; · iexact Hc11
  isplitl [Hc21]; · iexact Hc21
  isplitl [Hw1b0]; · iexact Hw1b0
  isplitl [Hw2b0]; · iexact Hw2b0
  isplitl [Gl0]; · iexact Gl0
  isplitl [Hg0]; · iexact Hg0
  iexact Hz1

/-- The peer's first half arrives, goes through the first expert and is sent back. -/
theorem part6 (c : Dev nD) (v3 v6 v9 v171 v172 : BitVec 32) (Kt : _ → sProp 𝕄) :
    iprop(recs m K ∗ Ow c (O1 c) ∗ crc c 5 ∗ atc c 5 ∗ mpts c w1bM (w1b0 m c) ∗ mpts c w2bM (w2b0 m c) ∗ any c (lo ysM) ∗ any (peer c) (lo yrM) ∗ tkc c 2 ∗ tkc (peer c) 6
        ∗ (Ow c (O3 c) ∗ own c (lo xrM) (xg0 m (peer c)) ∗ zc c 5 ∗ mpts c w1bM (w1b0 m c) ∗ mpts c w2bM (w2b0 m c) ∗ crc c 2 -∗ Kt ⟨⟩))
      ⊢ WP c (k0_part6 xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13 c v3 v6 v9 v171 v172) Kt := by
  rw [k0_part6_eq_skeleton]; unfold k0_part6_skel
  simp only [semSignalWord, semWaitWord, Prog.lift, Prog.bind_op, Prog.bind_ret, Prog.pure_eq_ret, wp_deviceId]
  iintro ⟨#HR, HO1, Hc5, Ha5, Hw1b0, Hw2b0, ⟨%fHs0, Hs0⟩, Pyr0, Ht2, Hp6, Hk⟩
  iapply (dma_wait m K c 5 (by decide) (O1 c) rs0 (lo xgM) (lo xrM) rfl rfl (mayWait_O1 c (csem 5) (by decide))) $$ [Hc5 HO1 Ha5]
  · isplitr; · iexact HR
    isplitl [Hc5]; · iexact Hc5
    isplitl [HO1]; · iexact HO1
    iexact Ha5
  iintro ⟨HO1, Gxr0, Hz5⟩
  dsimp only [pay]
  iapply (load_part c xrM (r := rlo) (fun _ => rfl) (xg0 m (peer c))) $$ Gxr0; iintro Gxr0
  iapply (load_full c w1bM (w1b0 m c) (w1b0 m c) (Memref.readAt_unit_zero (Elt F) cc0_scratch8 hz _ _)) $$ Hw1b0; iintro Hw1b0
  iapply (load_full c w2bM (w2b0 m c) (w2b0 m c) (Memref.readAt_unit_zero (Elt F) cc0_scratch9 hz _ _)) $$ Hw2b0; iintro Hw2b0
  iapply (load_part c ysM (r := rlo) (fun _ => rfl) fHs0) $$ Hs0; iintro Hs0
  iapply (store_part c ysM (r := rlo) (fun _ => rfl) fHs0) $$ Hs0; iintro Gs0
  iapply (half_send m K c _ (dev4_eq c) 2 6 (by decide) (by decide) rfl rfl (lo ysM) (lo yrM) (ys0 m c) (by dsimp only [pay]; iintro H; iexists _; iexact H) (by dsimp only [pay]; rw [peer_peer]) rfl (O3 c) (O1 c) rfl) $$ [Gs0 Pyr0 HO1 Ht2 Hp6]
  · isplitr; · iexact HR
    isplitl [Gs0]; · iexact Gs0
    isplitl [Pyr0]; · iexact Pyr0
    isplitl [HO1]; · iexact HO1
    isplitl [Ht2]; · iexact Ht2
    iexact Hp6
  iintro ⟨Hc2, HO⟩
  iapply (ret_at c _ ⟨⟩ rfl)
  iapply Hk
  isplitl [HO]; · iexact HO
  isplitl [Gxr0]; · iexact Gxr0
  isplitl [Hz5]; · iexact Hz5
  isplitl [Hw1b0]; · iexact Hw1b0
  isplitl [Hw2b0]; · iexact Hw2b0
  iexact Hc2

/-- The second expert's weights arrive and are cast. -/
theorem part7 (c : Dev nD) (v3 v6 : BitVec 32) (Kt : _ → sProp 𝕄) :
    iprop(recs m K ∗ Ow c (O3 c) ∗ cp11 m c ∗ cp21 m c ∗ mpts c w1bM (w1b0 m c) ∗ mpts c w2bM (w2b0 m c) ∗ crc c 3 ∗ atc c 3
        ∗ (Ow c (O3 c) ∗ mpts c g1M (V1 m c) ∗ mpts c w1fM (w1At1 m c) ∗ zsm c ws0 ∗ mpts c g2M (V2 m c) ∗ mpts c w2fM (w2At1 m c) ∗ zsm c ws1 ∗ mpts c w1bM (w1b1 m c) ∗ mpts c w2bM (w2b1 m c) ∗ any c (hi xgM) ∗ zc c 3 -∗ Kt ⟨Scalar.addi (Scalar.addi 0#32 (Scalar.muli v3 16#32)) (Scalar.muli v6 4#32), 1#32⟩))
      ⊢ WP c (k0_part7 xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13 v3 v6) Kt := by
  rw [k0_part7_eq_skeleton]; unfold k0_part7_skel
  simp only [semSignalWord, semWaitWord, Prog.lift, Prog.bind_op, Prog.bind_ret, Prog.pure_eq_ret, wp_deviceId]
  iintro ⟨#HR, HO3, Hc11, Hc21, Hw1b0, Hw2b0, Hc3, Ha3, Hk⟩
  iapply (copy_wait m K c ws0 N1 w1s1 w1fM (V1 m c) (w1At1 m c) rfl (mayWait_O3 c (.dma ws0) (by decide))) $$ [Hc11 HO3]
  · isplitr; · iexact HR
    isplitl [Hc11]; · iexact Hc11
    iexact HO3
  iintro ⟨H1, Hw1f, Hzw0, HO3⟩
  iapply (copy_wait m K c ws1 N2 w2s1 w2fM (V2 m c) (w2At1 m c) rfl (mayWait_O3 c (.dma ws1) (by decide))) $$ [Hc21 HO3]
  · isplitr; · iexact HR
    isplitl [Hc21]; · iexact Hc21
    iexact HO3
  iintro ⟨H2, Hw2f, Hzw1, HO3⟩
  iapply (load_full c w1fM (w1At1 m c) (w1At1 m c) (Memref.readAt_unit_zero (Elt F) cc0_scratch6 hz _ _)) $$ Hw1f; iintro Hw1f
  iapply (load_full c w1bM _ _ (Memref.readAt_unit_zero (Elt F) cc0_scratch8 hz _ _)) $$ Hw1b0; iintro Hw1b0
  iapply (store_full c w1bM _ (w1b1 m c) (Memref.write_access_unit_zero_univ (Elt F) cc0_scratch8 hz _ _ _)) $$ Hw1b0; iintro Hw1b
  iapply (load_full c w2fM (w2At1 m c) (w2At1 m c) (Memref.readAt_unit_zero (Elt F) cc0_scratch7 hz _ _)) $$ Hw2f; iintro Hw2f
  iapply (load_full c w2bM _ _ (Memref.readAt_unit_zero (Elt F) cc0_scratch9 hz _ _)) $$ Hw2b0; iintro Hw2b0
  iapply (store_full c w2bM _ (w2b1 m c) (Memref.write_access_unit_zero_univ (Elt F) cc0_scratch9 hz _ _ _)) $$ Hw2b0; iintro Hw2b
  iapply (dma_wait m K c 3 (by decide) (O3 c) ss2 (hi xrM) (hi xgM) rfl rfl (mayWait_O3 c (csem 3) (by decide))) $$ [Hc3 HO3 Ha3]
  · isplitr; · iexact HR
    isplitl [Hc3]; · iexact Hc3
    isplitl [HO3]; · iexact HO3
    iexact Ha3
  iintro ⟨HO3, Hg1, Hz3⟩
  dsimp only [pay]
  iapply (ret_at c _ ⟨Scalar.addi (Scalar.addi 0#32 (Scalar.muli v3 16#32)) (Scalar.muli v6 4#32), 1#32⟩ rfl)
  iapply Hk
  isplitl [HO3]; · iexact HO3
  isplitl [H1]; · iexact H1
  isplitl [Hw1f]; · iexact Hw1f
  isplitl [Hzw0]; · iexact Hzw0
  isplitl [H2]; · iexact H2
  isplitl [Hw2f]; · iexact Hw2f
  isplitl [Hzw1]; · iexact Hzw1
  isplitl [Hw1b]; · iexact Hw1b
  isplitl [Hw2b]; · iexact Hw2b
  isplitl [Hg1]; · iexact Hg1
  iexact Hz3

/-- The peer's second half arrives, goes through the second expert and is sent back. -/
theorem part8 (c : Dev nD) (v3 v6 v9 v229 v150 : BitVec 32) (Kt : _ → sProp 𝕄) :
    iprop(recs m K ∗ Ow c (O3 c) ∗ crc c 7 ∗ atc c 7 ∗ mpts c w1bM (w1b1 m c) ∗ mpts c w2bM (w2b1 m c) ∗ any c (hi ysM) ∗ any (peer c) (hi yrM) ∗ tkc c 4 ∗ tkc (peer c) 8
        ∗ (Ow c 0 ∗ own c (hi xrM) (xg1 m (peer c)) ∗ zc c 7 ∗ mpts c w1bM (w1b1 m c) ∗ mpts c w2bM (w2b1 m c) ∗ crc c 4 -∗ Kt (k0_pay19 (v111 m c))))
      ⊢ WP c (k0_part8 xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13 c v3 v6 v9 (v111 m c) v229 v150) Kt := by
  rw [k0_part8_eq_skeleton]; unfold k0_part8_skel
  simp only [semSignalWord, semWaitWord, Prog.lift, Prog.bind_op, Prog.bind_ret, Prog.pure_eq_ret, wp_deviceId]
  iintro ⟨#HR, HO3, Hc7, Ha7, Hw1b1, Hw2b1, ⟨%fHs1, Hs1⟩, Pyr1, Ht4, Hp8, Hk⟩
  iapply (dma_wait m K c 7 (by decide) (O3 c) rs2 (hi xgM) (hi xrM) rfl rfl (mayWait_O3 c (csem 7) (by decide))) $$ [Hc7 HO3 Ha7]
  · isplitr; · iexact HR
    isplitl [Hc7]; · iexact Hc7
    isplitl [HO3]; · iexact HO3
    iexact Ha7
  iintro ⟨HO3, Gxr1, Hz7⟩
  dsimp only [pay]
  iapply (load_part c xrM (r := rhi) (fun _ => rfl) (xg1 m (peer c))) $$ Gxr1; iintro Gxr1
  iapply (load_full c w1bM (w1b1 m c) (w1b1 m c) (Memref.readAt_unit_zero (Elt F) cc0_scratch8 hz _ _)) $$ Hw1b1; iintro Hw1b1
  iapply (load_full c w2bM (w2b1 m c) (w2b1 m c) (Memref.readAt_unit_zero (Elt F) cc0_scratch9 hz _ _)) $$ Hw2b1; iintro Hw2b1
  iapply (load_part c ysM (r := rhi) (fun _ => rfl) fHs1) $$ Hs1; iintro Hs1
  iapply (store_part c ysM (r := rhi) (fun _ => rfl) fHs1) $$ Hs1; iintro Gs1
  have hO3 : O3 c = 0 + tallyAt (kcell (peer c, 8)) () N := by rw [zero_add]; rfl
  iapply (half_send m K c _ (dev5_eq c) 4 8 (by decide) (by decide) rfl rfl (hi ysM) (hi yrM) (ys1 m c) (by dsimp only [pay]; iintro H; iexists _; iexact H) (by dsimp only [pay]; rw [peer_peer]) rfl 0 (O3 c) hO3) $$ [Gs1 Pyr1 HO3 Ht4 Hp8]
  · isplitr; · iexact HR
    isplitl [Gs1]; · iexact Gs1
    isplitl [Pyr1]; · iexact Pyr1
    isplitl [HO3]; · iexact HO3
    isplitl [Ht4]; · iexact Ht4
    iexact Hp8
  iintro ⟨Hc4, HO⟩
  iapply (ret_at c _ (k0_pay19 (v111 m c)) rfl)
  iapply Hk
  isplitl [HO]; · iexact HO
  isplitl [Gxr1]; · iexact Gxr1
  isplitl [Hz7]; · iexact Hz7
  isplitl [Hw1b1]; · iexact Hw1b1
  isplitl [Hw2b1]; · iexact Hw2b1
  iexact Hc4

/-- The device's own tokens go through its second expert; the first half comes back. -/
theorem part9 (c : Dev nD) (v3 v6 v9 : BitVec 32) (Kt : _ → sProp 𝕄) :
    iprop(recs m K ∗ Ow c 0 ∗ mpts c w1bM (w1b1 m c) ∗ mpts c w2bM (w2b1 m c) ∗ own c (lo ylM) (yl0 m c) ∗ any c (hi ylM) ∗ crc c 2 ∗ atc c 2 ∗ crc c 6 ∗ atc c 6
        ∗ (Ow c 0 ∗ mpts c w1bM (w1b1 m c) ∗ mpts c w2bM (w2b1 m c) ∗ mpts c ylM (glue (yl0 m c) (yl1 m c)) ∗ any c (lo ysM) ∗ zc c 2 ∗ own c (lo yrM) (ys0 m (peer c)) ∗ zc c 6 -∗ Kt (k0_pay21 (v109 m c) (glue (V := Elt F .bf16) (yl0 m c) (yl1 m c)))))
      ⊢ WP c (k0_part9 xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13 v3 v6 v9 (v109 m c) (k0_pay19 (v111 m c))) Kt := by
  rw [k0_part9_eq_skeleton]; unfold k0_part9_skel
  simp only [semSignalWord, semWaitWord, Prog.lift, Prog.bind_op, Prog.bind_ret, Prog.pure_eq_ret, wp_deviceId]
  iintro ⟨#HR, HO0, Hw1b1, Hw2b1, Gl0, ⟨%fHl1, Hl1⟩, Hc2, Ha2, Hc6, Ha6, Hk⟩
  iapply (load_full c w1bM (w1b1 m c) (w1b1 m c) (Memref.readAt_unit_zero (Elt F) cc0_scratch8 hz _ _)) $$ Hw1b1; iintro Hw1b1
  iapply (load_full c w2bM (w2b1 m c) (w2b1 m c) (Memref.readAt_unit_zero (Elt F) cc0_scratch9 hz _ _)) $$ Hw2b1; iintro Hw2b1
  iapply (load_part c ylM (r := rhi) (fun _ => rfl) fHl1) $$ Hl1; iintro Hl1
  iapply (store_part c ylM (r := rhi) (fun _ => rfl) fHl1) $$ Hl1; iintro Gl1
  ihave Gl := (owns_join c ylM (yl0 m c) (yl1 m c)) $$ [Gl0 Gl1]
  · isplitl [Gl0]; · iexact Gl0
    iexact Gl1
  ihave Gl := (Entails.of_eq (owns_whole (c : Thread nD τ) cc0_scratch3 fullShare (glue (V := Elt F .bf16) (yl0 m c) (yl1 m c)))) $$ Gl
  iapply (load_full c ylM _ (glue (V := Elt F .bf16) (yl0 m c) (yl1 m c)) (Memref.readAt_unit_zero (Elt F) cc0_scratch3 hz _ _)) $$ Gl; iintro Gl
  iapply (dma_wait m K c 2 (by decide) 0 ss1 (lo yrM) (lo ysM) rfl rfl (mayWait_zero' c (csem 2))) $$ [Hc2 HO0 Ha2]
  · isplitr; · iexact HR
    isplitl [Hc2]; · iexact Hc2
    isplitl [HO0]; · iexact HO0
    iexact Ha2
  iintro ⟨HO0, Hs0, Hz2⟩
  iapply (dma_wait m K c 6 (by decide) 0 rs1 (lo ysM) (lo yrM) rfl rfl (mayWait_zero' c (csem 6))) $$ [Hc6 HO0 Ha6]
  · isplitr; · iexact HR
    isplitl [Hc6]; · iexact Hc6
    isplitl [HO0]; · iexact HO0
    iexact Ha6
  iintro ⟨HO0, Gyr0, Hz6⟩
  dsimp only [pay]
  iapply (ret_at c _ (k0_pay21 (v109 m c) (glue (V := Elt F .bf16) (yl0 m c) (yl1 m c))) rfl)
  iapply Hk
  isplitl [HO0]; · iexact HO0
  isplitl [Hw1b1]; · iexact Hw1b1
  isplitl [Hw2b1]; · iexact Hw2b1
  isplitl [Gl]; · iexact Gl
  isplitl [Hs0]; · iexact Hs0
  isplitl [Hz2]; · iexact Hz2
  isplitl [Gyr0]; · iexact Gyr0
  iexact Hz6

/-- What the body starts from on device `c`, and what it leaves. -/
def bodyIn (c : Dev nD) : sProp 𝕄 :=
  iprop(Ow c (O₀ c) ∗ mpts c xM (Vx m c) ∗ mpts c g1M (V1 m c) ∗ mpts c g2M (V2 m c) ∗ atc c 0 ∗ atc c 1 ∗ atc c 2 ∗ atc c 3 ∗ atc c 4 ∗ atc c 5 ∗ atc c 6 ∗ atc c 7 ∗ atc c 8 ∗ crc c 0 ∗ crc c 5 ∗ crc c 6 ∗ crc c 7 ∗ crc c 8 ∗ tkc c 1 ∗ tkc c 2 ∗ tkc c 3 ∗ tkc c 4 ∗ tkc (peer c) 0 ∗ tkc (peer c) 5 ∗ tkc (peer c) 6 ∗ tkc (peer c) 7 ∗ tkc (peer c) 8 ∗ zsm c xS ∗ zsm c ws0 ∗ zsm c ws1 ∗ mpts c aM (aAt m c) ∗ (∃ f, mpts c oM f) ∗ (∃ f, mpts c xvM f) ∗ any c (lo xgM) ∗ any c (hi xgM) ∗ any c (lo xrM) ∗ any c (hi xrM) ∗ any c (lo ylM) ∗ any c (hi ylM) ∗ any c (lo ysM) ∗ any c (hi ysM) ∗ any c (lo yrM) ∗ any c (hi yrM) ∗ (∃ f, mpts c w1fM f) ∗ (∃ f, mpts c w2fM f) ∗ (∃ f, mpts c w1bM f) ∗ (∃ f, mpts c w2bM f))

def bodyOut (c : Dev nD) : sProp 𝕄 :=
  iprop(Ow c 0 ∗ mpts c xM (Vx m c) ∗ mpts c g1M (V1 m c) ∗ mpts c g2M (V2 m c) ∗ zc c 0 ∗ zc c 1 ∗ zc c 2 ∗ zc c 3 ∗ zc c 4 ∗ zc c 5 ∗ zc c 6 ∗ zc c 7 ∗ zc c 8 ∗ zsm c xS ∗ zsm c ws0 ∗ zsm c ws1 ∗ mpts c aM (aAt m c) ∗ mpts c oM (outAt m c) ∗ mpts c xvM (xAt m c) ∗ any c (lo xgM) ∗ any c (hi xgM) ∗ own c (lo xrM) (xg0 m (peer c)) ∗ own c (hi xrM) (xg1 m (peer c)) ∗ mpts c ylM (glue (yl0 m c) (yl1 m c)) ∗ any c (lo ysM) ∗ any c (hi ysM) ∗ own c (lo yrM) (ys0 m (peer c)) ∗ own c (hi yrM) (ys1 m (peer c)) ∗ mpts c w1fM (w1At1 m c) ∗ mpts c w2fM (w2At1 m c) ∗ mpts c w1bM (w1b1 m c) ∗ mpts c w2bM (w2b1 m c))

/-- The whole body. -/
theorem body_run (c : Dev nD) (Q : PUnit → sProp 𝕄) :
    iprop(recs m K ∗ bodyIn m c ∗ (bodyOut m c -∗ Q ⟨⟩))
      ⊢ WP c (cc0_body xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13) Q := by
  rw [cc0_body_eq_skeleton]; unfold cc0_body_skel bodyIn bodyOut
  iintro ⟨#HR, ⟨HO, Hx, H1, H2, Ha0, Ha1, Ha2, Ha3, Ha4, Ha5, Ha6, Ha7, Ha8, Hc0, Hc5, Hc6, Hc7, Hc8, Ht1, Ht2, Ht3, Ht4, Hp0, Hp5, Hp6, Hp7, Hp8, Hzx, Hzw0, Hzw1, Ha, Hout, Hxv, Hg0, Hg1, Hxr0, Hxr1, Hl0, Hl1, Hs0, Hs1, Hyr0, Hyr1, Hw1f, Hw2f, Hw1b, Hw2b⟩, Hk⟩
  try unfold WP
  rw [wp_bind]
  iapply (part1 m K c  _)
  isplitr; · iexact HR
  isplitl [HO]; · iexact HO
  isplitl [Hp0]; · iexact Hp0
  isplitl [Hxr0]; · iexact Hxr0
  isplitl [Hxr1]; · iexact Hxr1
  isplitl [Hyr0]; · iexact Hyr0
  isplitl [Hyr1]; · iexact Hyr1
  isplitl [Ha0]; · iexact Ha0
  isplitl [Hc0]; · iexact Hc0
  isplitl [Hx]; · iexact Hx
  isplitl [Hxv]; · iexact Hxv
  isplitl [Hzx]; · iexact Hzx
  isplitl [H1]; · iexact H1
  isplitl [Hw1f]; · iexact Hw1f
  isplitl [Hzw0]; · iexact Hzw0
  isplitl [H2]; · iexact H2
  isplitl [Hw2f]; · iexact Hw2f
  isplitl [Hzw1]; · iexact Hzw1
  isplitl [Ha]; · iexact Ha
  iintro ⟨HO, Hz0, Pxr0, Pxr1, Pyr0, Pyr1, HcX, Hc10, Hc20, Ha⟩
  try dsimp only
  try unfold WP
  rw [wp_bind]
  iapply (part2 m K c _ _ _)
  isplitr; · iexact HR
  isplitl [HO]; · iexact HO
  isplitl [HcX]; · iexact HcX
  isplitl [Hg0]; · iexact Hg0
  iintro ⟨HO, Hx, Hxv, Hzx, Gg0⟩
  try dsimp only
  try unfold WP
  rw [wp_bind]
  iapply (part3 m K c _ _ _ _ _)
  isplitr; · iexact HR
  isplitl [HO]; · iexact HO
  isplitl [Gg0]; · iexact Gg0
  isplitl [Pxr0]; · iexact Pxr0
  isplitl [Ht1]; · iexact Ht1
  isplitl [Hp5]; · iexact Hp5
  isplitl [Hg1]; · iexact Hg1
  isplitl [Pxr1]; · iexact Pxr1
  isplitl [Ht3]; · iexact Ht3
  isplitl [Hp7]; · iexact Hp7
  iintro ⟨HO, Hc1, Hc3⟩
  try dsimp only
  try unfold WP
  rw [wp_bind]
  iapply (part4 m K c  _)
  isplitr; · iexact HR
  isplitl [HO]; · iexact HO
  isplitl [Hc10]; · iexact Hc10
  isplitl [Hc20]; · iexact Hc20
  isplitl [Hw1b]; · iexact Hw1b
  isplitl [Hw2b]; · iexact Hw2b
  iintro ⟨HO, H1, Hw1f, Hzw0, H2, Hw2f, Hzw1, Hw1b, Hw2b⟩
  try dsimp only
  try unfold WP
  rw [wp_bind]
  iapply (part5 m K c _ _ _)
  isplitr; · iexact HR
  isplitl [HO]; · iexact HO
  isplitl [H1]; · iexact H1
  isplitl [Hw1f]; · iexact Hw1f
  isplitl [Hzw0]; · iexact Hzw0
  isplitl [H2]; · iexact H2
  isplitl [Hw2f]; · iexact Hw2f
  isplitl [Hzw1]; · iexact Hzw1
  isplitl [Hw1b]; · iexact Hw1b
  isplitl [Hw2b]; · iexact Hw2b
  isplitl [Hl0]; · iexact Hl0
  isplitl [Hc1]; · iexact Hc1
  isplitl [Ha1]; · iexact Ha1
  iintro ⟨HO, Hc11, Hc21, Hw1b, Hw2b, Gl0, Hg0, Hz1⟩
  try dsimp only
  try unfold WP
  rw [wp_bind]
  iapply (part6 m K c _ _ _ _ _ _)
  isplitr; · iexact HR
  isplitl [HO]; · iexact HO
  isplitl [Hc5]; · iexact Hc5
  isplitl [Ha5]; · iexact Ha5
  isplitl [Hw1b]; · iexact Hw1b
  isplitl [Hw2b]; · iexact Hw2b
  isplitl [Hs0]; · iexact Hs0
  isplitl [Pyr0]; · iexact Pyr0
  isplitl [Ht2]; · iexact Ht2
  isplitl [Hp6]; · iexact Hp6
  iintro ⟨HO, Gxr0, Hz5, Hw1b, Hw2b, Hc2⟩
  try dsimp only
  try unfold WP
  rw [wp_bind]
  iapply (part7 m K c _ _ _)
  isplitr; · iexact HR
  isplitl [HO]; · iexact HO
  isplitl [Hc11]; · iexact Hc11
  isplitl [Hc21]; · iexact Hc21
  isplitl [Hw1b]; · iexact Hw1b
  isplitl [Hw2b]; · iexact Hw2b
  isplitl [Hc3]; · iexact Hc3
  isplitl [Ha3]; · iexact Ha3
  iintro ⟨HO, H1, Hw1f, Hzw0, H2, Hw2f, Hzw1, Hw1b, Hw2b, Hg1, Hz3⟩
  try dsimp only
  try unfold WP
  rw [wp_bind]
  iapply (part8 m K c _ _ _ _ _ _)
  isplitr; · iexact HR
  isplitl [HO]; · iexact HO
  isplitl [Hc7]; · iexact Hc7
  isplitl [Ha7]; · iexact Ha7
  isplitl [Hw1b]; · iexact Hw1b
  isplitl [Hw2b]; · iexact Hw2b
  isplitl [Hs1]; · iexact Hs1
  isplitl [Pyr1]; · iexact Pyr1
  isplitl [Ht4]; · iexact Ht4
  isplitl [Hp8]; · iexact Hp8
  iintro ⟨HO, Gxr1, Hz7, Hw1b, Hw2b, Hc4⟩
  try dsimp only
  try unfold WP
  rw [wp_bind]
  iapply (part9 m K c _ _ _ _)
  isplitr; · iexact HR
  isplitl [HO]; · iexact HO
  isplitl [Hw1b]; · iexact Hw1b
  isplitl [Hw2b]; · iexact Hw2b
  isplitl [Gl0]; · iexact Gl0
  isplitl [Hl1]; · iexact Hl1
  isplitl [Hc2]; · iexact Hc2
  isplitl [Ha2]; · iexact Ha2
  isplitl [Hc6]; · iexact Hc6
  isplitl [Ha6]; · iexact Ha6
  iintro ⟨HO, Hw1b, Hw2b, Gl, Hs0, Hz2, Gyr0, Hz6⟩
  try dsimp only
  simp only [Prog.lift, Prog.bind_op, Prog.bind_ret, Prog.pure_eq_ret]
  icases Hout with ⟨%fo, Hout⟩
  iapply (load_part c yrM (r := rlo) (fun _ => rfl) (ys0 m (peer c))) $$ Gyr0; iintro Gyr0
  iapply (dma_wait m K c 4 (by decide) 0 ss3 (hi yrM) (hi ysM) rfl rfl (mayWait_zero' c (csem 4))) $$ [Hc4 HO Ha4]
  · isplitr; · iexact HR
    isplitl [Hc4]; · iexact Hc4
    isplitl [HO]; · iexact HO
    iexact Ha4
  iintro ⟨HO, Hs1, Hz4⟩
  iapply (dma_wait m K c 8 (by decide) 0 rs3 (hi ysM) (hi yrM) rfl rfl (mayWait_zero' c (csem 8))) $$ [Hc8 HO Ha8]
  · isplitr; · iexact HR
    isplitl [Hc8]; · iexact Hc8
    isplitl [HO]; · iexact HO
    iexact Ha8
  iintro ⟨HO, Gyr1, Hz8⟩
  dsimp only [pay]
  iapply (load_part c yrM (r := rhi) (fun _ => rfl) (ys1 m (peer c))) $$ Gyr1; iintro Gyr1
  iapply (load_full c oM fo _ (Memref.readAt_unit_zero (Elt F) cc0_stg1_0 hz _ _)) $$ Hout; iintro Hout
  iapply (store_full c oM fo (outAt m c) (Memref.write_access_unit_zero_univ (Elt F) cc0_stg1_0 hz _ _ _)) $$ Hout; iintro Hout
  iapply (ret_at c _ PUnit.unit rfl)
  iapply Hk
  isplitl [HO]; · iexact HO
  isplitl [Hx]; · iexact Hx
  isplitl [H1]; · iexact H1
  isplitl [H2]; · iexact H2
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  isplitl [Hzx]; · iexact Hzx
  isplitl [Hzw0]; · iexact Hzw0
  isplitl [Hzw1]; · iexact Hzw1
  isplitl [Ha]; · iexact Ha
  isplitl [Hout]; · iexact Hout
  isplitl [Hxv]; · iexact Hxv
  isplitl [Hg0]; · iexact Hg0
  isplitl [Hg1]; · iexact Hg1
  isplitl [Gxr0]; · iexact Gxr0
  isplitl [Gxr1]; · iexact Gxr1
  isplitl [Gl]; · iexact Gl
  isplitl [Hs0]; · iexact Hs0
  isplitl [Hs1]; · iexact Hs1
  isplitl [Gyr0]; · iexact Gyr0
  isplitl [Gyr1]; · iexact Gyr1
  isplitl [Hw1f]; · iexact Hw1f
  isplitl [Hw2f]; · iexact Hw2f
  isplitl [Hw1b]; · iexact Hw1b
  iexact Hw2b

end Cert.MoE

end
-- ==== Proof.Launch.lean ====
/-
The launch: the body obligation of the pipeline from the body's run, the protocol's cells allocated from their counters at
zero, the duty tokens dealt to the devices that pay them, the launch credits, and the run of the whole program.
-/
module

public import proofs.«01_k».proof.Proof.Body
public import Idealize.ShloMosaic.Lib.Pipeline.CollectiveSegs
public import Idealize.ShloMosaic.Lib.Quiescent

@[expose] public section

set_option maxRecDepth 100000
set_option maxHeartbeats 1000000

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds outside the body -/

/-- The duties device `c` pays: its own four send cells', and its peer's barrier cell's and four receive cells'. -/
def payToks (c : Dev nD) : sProp 𝕄 :=
  iprop(tkc c 1 ∗ tkc c 2 ∗ tkc c 3 ∗ tkc c 4 ∗ tkc (peer c) 0 ∗ tkc (peer c) 5 ∗ tkc (peer c) 6 ∗ tkc (peer c) 7 ∗ tkc (peer c) 8)
/-- Device `c`'s places at its own cells. -/
def places (c : Dev nD) : sProp 𝕄 := iprop(atc c 0 ∗ atc c 1 ∗ atc c 2 ∗ atc c 3 ∗ atc c 4 ∗ atc c 5 ∗ atc c 6 ∗ atc c 7 ∗ atc c 8)
/-- The counters of the local copies. -/
def localSems (c : Dev nD) : sProp 𝕄 := iprop(zsm c xS ∗ zsm c ws0 ∗ zsm c ws1)

/-- The invariants of every cell and that each is at its round 0. -/
def records (K : Dev nD × Fin 9 → ℕ) : sProp 𝕄 :=
  iprop((bigSep Finset.univ fun ck : Dev nD × Fin 9 => cellInv ER (Rd m) (K ck) (kcell ck))
    ∗ bigSep Finset.univ fun ck : Dev nD × Fin 9 => reached ER (kcell ck) 0)
instance records_persistent (K : Dev nD × Fin 9 → ℕ) : BI.Persistent (records m K) := by unfold records; infer_instance

def linear (c : Dev nD) : sProp 𝕄 := iprop(places c ∗ payToks c ∗ localSems c)
/-- What the allocation of the cells makes of the launch's deal. -/
def G' (c : Dev nD) : sProp 𝕄 := iprop(∃ K, records m K ∗ linear c)

/-- The credits a device waits with on the cells others pay. -/
def creds0 (c : Dev nD) : sProp 𝕄 := iprop(crc c 0 ∗ crc c 5 ∗ crc c 6 ∗ crc c 7 ∗ crc c 8)
/-- The argument arrays the pipeline does not stage. -/
def hbm (c : Dev nD) : sProp 𝕄 := iprop(mpts c xM (Vx m c) ∗ mpts c g1M (V1 m c) ∗ mpts c g2M (V2 m c))

def start (c : Dev nD) : sProp 𝕄 := iprop(G' m c ∗ creds0 c ∗ (levAts L lv : sProp 𝕄) ∗ hbm m c)

def closed (c : Dev nD) : sProp 𝕄 :=
  iprop(zc c 0 ∗ zc c 1 ∗ zc c 2 ∗ zc c 3 ∗ zc c 4 ∗ zc c 5 ∗ zc c 6 ∗ zc c 7 ∗ zc c 8)

/-- Before the body's one iteration, and after it. -/
def Φ₀ (c : Dev nD) : sProp 𝕄 := iprop(start m c ∗ Pipeline.scopedRest spec0 c)
def Φ₁ (c : Dev nD) : sProp 𝕄 := iprop(hbm m c ∗ closed c ∗ localSems c ∗ Pipeline.scopedRest spec0 c)

/-- What the staging buffers hold after the body: the assignments, the result. -/
def afterAt (c : Dev nD) : (w : Fin 2) → (cfg0.win w).block.Idx → Elt F (cfg0.win w).elt
  | ⟨0, _⟩ => aAt m c
  | ⟨1, _⟩ => outAt m c

def dats (_ : Fin 1) (c : Dev nD) : Dat τ (Elt F) Unit ℕ UU ℕ cfg0 c where
  A w := (s₀ m ρ).mem ((cfg0.win w).arr.view.loc (c : Thread nD τ))
  after w _ := afterAt m c w
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The scratch buffers as the body holds them -/

theorem split_whole (c : Dev nD) (b : Ref sig .tc) (M : Memref sig .tc .vmem S576x1024 .bf16) (f : Buf (Elt F) (M.view.loc (c : Thread nD τ)))
    (hM : M.view.set = Finset.univ) : (mpts c M f : sProp 𝕄) ⊢ iprop(any c (lo M) ∗ any c (hi M)) := by
  iintro H
  iapply (owns_halves c M (M.view.read (Elt F) f))
  iapply (owns_intro (c : Thread nD τ) M fullShare f)
  rw [hM]
  iexact H
theorem join_whole (c : Dev nD) (M : Memref sig .tc .vmem S576x1024 .bf16) (hM : M.view.set = Finset.univ) :
    iprop(any c (lo M) ∗ any c (hi M)) ⊢ (iprop(∃ f, mpts c M f) : sProp 𝕄) := by
  iintro ⟨⟨%X, H0⟩, ⟨%Y, H1⟩⟩
  ihave H := (owns_join c M X Y) $$ [H0 H1]
  · isplitl [H0]; · iexact H0
    iexact H1
  ihave H := (show owns (c : Thread nD τ) M fullShare (glue (V := Elt F .bf16) X Y) ⊢ iprop(∃ g, ⌜M.view.read (Elt F) g = glue (V := Elt F .bf16) X Y⌝ ∗ M.view.loc (c : Thread nD τ) ↦[M.view.set]{fullShare} g) from .rfl) $$ H
  icases H with ⟨%g, -, H⟩
  iexists g
  rw [hM]
  iexact H

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (aAt m c) ∗ stg c cc0_stg1_0 (outAt m c))

theorem before_a (c : Dev nD) (d) : (dats m ρ 0 c).before (0 : Fin 2) t0_0 d = aAt m c := by
  unfold Dat.before; rw [if_pos (fetch0_0 t0_0)]; rfl

theorem sound_body (c : Dev nD) :
    bodyPre m ρ c ⊢ WP c (cc0_body xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13) (fun _ => bodyPost m ρ c) := by
  unfold bodyPre Φ₀ start G' linear places payToks localSems creds0 hbm
  rw [scopedRest0_eq]
  iintro ⟨⟨⟨⟨%K, Hrec, ⟨Ha0, Ha1, Ha2, Ha3, Ha4, Ha5, Ha6, Ha7, Ha8⟩, ⟨Ht1, Ht2, Ht3, Ht4, Hp0, Hp5, Hp6, Hp7, Hp8⟩, ⟨Hzx, Hzw0, Hzw1⟩⟩, ⟨Hc0, Hc5, Hc6, Hc7, Hc8⟩, #Hlev, ⟨Hx, H1, H2⟩⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩⟩, Ho, ⟨%d0, %g0, %hg0, Ha⟩, ⟨%d1, %g1, %hg1, Hout⟩⟩
  ihave Hrec := (show records m K ⊢ iprop((bigSep Finset.univ fun ck : Dev nD × Fin 9 => cellInv ER (Rd m) (K ck) (kcell ck)) ∗ bigSep Finset.univ fun ck : Dev nD × Fin 9 => reached ER (kcell ck) 0) from .rfl) $$ Hrec
  icases Hrec with ⟨#HI, #Hrch⟩
  have hx : g0 = aAt m c := by rw [hg0]; exact before_a m ρ c d0
  subst hx
  unfold Dat.owesAt Pipeline.owesWithin
  icases Ho with ⟨%W, %hW, HO⟩
  ihave Hg := (split_whole c cc0_scratch1 xgM f1 (View.set_whole _)) $$ Hs1; icases Hg with ⟨Hg0, Hg1⟩
  ihave Hxr := (split_whole c cc0_scratch2 xrM f2 (View.set_whole _)) $$ Hs2; icases Hxr with ⟨Hxr0, Hxr1⟩
  ihave Hl := (split_whole c cc0_scratch3 ylM f3 (View.set_whole _)) $$ Hs3; icases Hl with ⟨Hl0, Hl1⟩
  ihave Hs4 := (split_whole c cc0_scratch4 ysM f4 (View.set_whole _)) $$ Hs4; icases Hs4 with ⟨Hs40, Hs41⟩
  ihave Hyr := (split_whole c cc0_scratch5 yrM f5 (View.set_whole _)) $$ Hs5; icases Hyr with ⟨Hyr0, Hyr1⟩
  iapply (body_run m K c _)
  isplitr
  · unfold recs
    isplitr; · iexact HI
    isplitr; · iexact Hrch
    iexact Hlev
  isplitl [HO Hx H1 H2 Ha0 Ha1 Ha2 Ha3 Ha4 Ha5 Ha6 Ha7 Ha8 Hc0 Hc5 Hc6 Hc7 Hc8 Ht1 Ht2 Ht3 Ht4 Hp0 Hp5 Hp6 Hp7 Hp8 Hzx Hzw0 Hzw1 Ha Hout Hs0 Hg0 Hg1 Hxr0 Hxr1 Hl0 Hl1 Hs40 Hs41 Hyr0 Hyr1 Hs6 Hs7 Hs8 Hs9]
  · unfold bodyIn
    isplitl [HO]; · (unfold Ow; iexists W; iexact HO)
    isplitl [Hx]; · iexact Hx
    isplitl [H1]; · iexact H1
    isplitl [H2]; · iexact H2
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Hc0]; · iexact Hc0
    isplitl [Hc5]; · iexact Hc5
    isplitl [Hc6]; · iexact Hc6
    isplitl [Hc7]; · iexact Hc7
    isplitl [Hc8]; · iexact Hc8
    isplitl [Ht1]; · iexact Ht1
    isplitl [Ht2]; · iexact Ht2
    isplitl [Ht3]; · iexact Ht3
    isplitl [Ht4]; · iexact Ht4
    isplitl [Hp0]; · iexact Hp0
    isplitl [Hp5]; · iexact Hp5
    isplitl [Hp6]; · iexact Hp6
    isplitl [Hp7]; · iexact Hp7
    isplitl [Hp8]; · iexact Hp8
    isplitl [Hzx]; · iexact Hzx
    isplitl [Hzw0]; · iexact Hzw0
    isplitl [Hzw1]; · iexact Hzw1
    isplitl [Ha]; · iexact Ha
    isplitl [Hout]; · iexists _; iexact Hout
    isplitl [Hs0]; · iexists _; iexact Hs0
    isplitl [Hg0]; · iexact Hg0
    isplitl [Hg1]; · iexact Hg1
    isplitl [Hxr0]; · iexact Hxr0
    isplitl [Hxr1]; · iexact Hxr1
    isplitl [Hl0]; · iexact Hl0
    isplitl [Hl1]; · iexact Hl1
    isplitl [Hs40]; · iexact Hs40
    isplitl [Hs41]; · iexact Hs41
    isplitl [Hyr0]; · iexact Hyr0
    isplitl [Hyr1]; · iexact Hyr1
    isplitl [Hs6]; · iexists _; iexact Hs6
    isplitl [Hs7]; · iexists _; iexact Hs7
    isplitl [Hs8]; · iexists _; iexact Hs8
    iexists _; iexact Hs9
  unfold bodyOut
  iintro ⟨HO, Hx, H1, H2, Hz0, Hz1, Hz2, Hz3, Hz4, Hz5, Hz6, Hz7, Hz8, Hzx, Hzw0, Hzw1, Ha, Hout, Hs0, Hg0, Hg1, Hxr0, Hxr1, Hs3, Hs40, Hs41, Hyr0, Hyr1, Hs6, Hs7, Hs8, Hs9⟩
  unfold bodyPost Φ₁ hbm closed localSems Dat.owesAt Pipeline.owesWithin
  rw [scopedRest0_eq]
  isplitl [Hx H1 H2 Hz0 Hz1 Hz2 Hz3 Hz4 Hz5 Hz6 Hz7 Hz8 Hzx Hzw0 Hzw1 Hs0 Hg0 Hg1 Hxr0 Hxr1 Hs3 Hs40 Hs41 Hyr0 Hyr1 Hs6 Hs7 Hs8 Hs9]
  · isplitl [Hx H1 H2]
    · isplitl [Hx]; · iexact Hx
      isplitl [H1]; · iexact H1
      iexact H2
    isplitl [Hz0 Hz1 Hz2 Hz3 Hz4 Hz5 Hz6 Hz7 Hz8]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      iexact Hz8
    isplitl [Hzx Hzw0 Hzw1]
    · isplitl [Hzx]; · iexact Hzx
      isplitl [Hzw0]; · iexact Hzw0
      iexact Hzw1
    isplitl [Hs0]; · iexists _; iexact Hs0
    isplitl [Hg0 Hg1]
    · iapply (join_whole c xgM (View.set_whole _))
      isplitl [Hg0]; · iexact Hg0
      iexact Hg1
    isplitl [Hxr0 Hxr1]
    · iapply (join_whole c xrM (View.set_whole _))
      isplitl [Hxr0]; · iexists _; iexact Hxr0
      iexists _; iexact Hxr1
    isplitl [Hs3]; · iexists _; iexact Hs3
    isplitl [Hs40 Hs41]
    · iapply (join_whole c ysM (View.set_whole _))
      isplitl [Hs40]; · iexact Hs40
      iexact Hs41
    isplitl [Hyr0 Hyr1]
    · iapply (join_whole c yrM (View.set_whole _))
      isplitl [Hyr0]; · iexists _; iexact Hyr0
      iexists _; iexact Hyr1
    isplitl [Hs6]; · iexists _; iexact Hs6
    isplitl [Hs7]; · iexists _; iexact Hs7
    isplitl [Hs8]; · iexists _; iexact Hs8
    iexists _; iexact Hs9
  isplitl [HO]
  · unfold Ow
    icases HO with ⟨%W', HO⟩
    iexists W'
    isplitr; · ipureintro; exact fun _ _ => Or.inl trivial
    iexact HO
  isplitl [Ha]
  · iexists _; isplitr; · (ipureintro; rfl)
    iexact Ha
  iexists _; isplitr; · (ipureintro; rfl)
  iexact Hout

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body xM (Memref.isWhole_whole _) aM (Memref.isWhole_whole _) g1M (Memref.isWhole_whole _) g2M (Memref.isWhole_whole _) oM (Memref.isWhole_whole _) xvM (Memref.isWhole_whole _) xgM (Memref.isWhole_whole _) xrM (Memref.isWhole_whole _) ylM (Memref.isWhole_whole _) ysM (Memref.isWhole_whole _) yrM (Memref.isWhole_whole _) w1fM (Memref.isWhole_whole _) w2fM (Memref.isWhole_whole _) w1bM (Memref.isWhole_whole _) w2bM (Memref.isWhole_whole _) cc0_scratch10 cc0_scratch11 cc0_scratch12 cc0_scratch13) (fun _ => bodyPost m ρ c)
  exact sound_body m ρ c

/-! ## The launch -/

theorem share_eq (c : Dev nD) (w : Fin cfg0.W) : (dats m ρ 0 c).share w = fullShare := by unfold Dat.share; split <;> rfl

def kcells : Finset (GSem nD τ sig) := Finset.univ.map ⟨kcell, kcell_injective⟩

/-- Each cell's one duty token. -/
abbrev tokOf (ck : Dev nD × Fin 9) : GSem nD τ sig × ℕ × Unit := (kcell ck, 0, ())
theorem tokOf_injective : Function.Injective tokOf := fun a b h => kcell_injective (congrArg Prod.fst h)
def ktoks : Finset (GSem nD τ sig × ℕ × Unit) := Finset.univ.map ⟨tokOf, tokOf_injective⟩

def u₀ : UU := (initOf (Pipeline.cells cfgs cellOf_inj) (Pipeline.launchToks cfgs cellOf_inj), (initOf kcells ktoks, (1 : Counters)))

/-- The duty tokens of device `c`'s own cells. -/
def toks (c : Dev nD) : sProp 𝕄 := bigSep Finset.univ fun k : Fin 9 => tkc c k

/-- What the launch element deals device `c`. -/
def G (c : Dev nD) : sProp 𝕄 :=
  iprop((bigSep Finset.univ fun k : Fin 9 => roundState ER (Rd m) (kcell (c, k)) 0)
    ∗ (bigSep Finset.univ fun k : Fin 9 => iprop(atPos ER (kcell (c, k)) 0 ∅ 0 ∗ reached ER (kcell (c, k)) 0)) ∗ toks c)

theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The launch element in its two parts. -/
theorem ownU_parts (a : UR sig nD τ) (b : UB) :
    (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem fund_cells : BI.own (ER (initOf kcells ktoks)) ⊢ (|==> bigSep Finset.univ (G m) : sProp 𝕄) := by
  have hX (Φ : GSem nD τ sig → sProp 𝕄) : bigSep kcells Φ = bigSep Finset.univ fun c : Dev nD => bigSep Finset.univ fun k : Fin 9 => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]; rfl
  iintro HX
  imod (Rounds.fund ER (Rd m) kcells ktoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero, one by one; the barrier semaphore is the one semaphore outside. -/
theorem ownSems0_eq (c : Dev nD) : (Pipeline.ownSems0 (Ix := Unit) (Name := ℕ) (U := UU) (Lvl := ℕ) (Val := Elt F) (τ := τ) osem c : sProp 𝕄)
    = iprop(zsm c xS ∗ zsm c ws0 ∗ zsm c ws1 ∗ zc c 1 ∗ zc c 2 ∗ zc c 3 ∗ zc c 4 ∗ zc c 5 ∗ zc c 6 ∗ zc c 7 ∗ zc c 8) := by
  rw [Pipeline.ownSems0_eq_of_list c osem [0, 1, 2, 3, 4, 5, 6, 7, 8, 9, 10] (by decide) (by decide)]; rfl
theorem unscopedSems0_eq (c : Dev nD) : (unscopedSems0 c : sProp 𝕄) = zc c 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 9 => semVal (kcell (c, k)) 0 : sProp 𝕄) ∗ localSems c) := by
  rw [ownSems0_eq, unscopedSems0_eq, bigSep_fin9]
  unfold localSems
  iintro ⟨⟨Hx, Hw0, Hw1, H1, H2, H3, H4, H5, H6, H7, H8⟩, H0⟩
  isplitr [Hx Hw0 Hw1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hx]; · iexact Hx
  isplitl [Hw0]; · iexact Hw0
  iexact Hw1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 9 => semVal (kcell (c, k)) 0) ∗ bigSep Finset.univ fun k : Fin 9 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The tokens dealt to the devices that pay them: those of the send cells stay, the others go to the peer. -/
theorem toks_around : (bigSep Finset.univ fun c : Dev nD => (toks c : sProp 𝕄)) ⊢ bigSep Finset.univ fun c : Dev nD => payToks c := by
  have h : (bigSep Finset.univ fun c : Dev nD => (toks c : sProp 𝕄))
      = bigSep Finset.univ fun c : Dev nD => iprop(tkc c 0 ∗ tkc c 1 ∗ tkc c 2 ∗ tkc c 3 ∗ tkc c 4 ∗ tkc c 5 ∗ tkc c 6 ∗ tkc c 7 ∗ tkc c 8) :=
    bigSep_congr fun c _ => by unfold toks; rw [bigSep_fin9]
  rw [h]
  unfold payToks
  rw [bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep']
  rw [bigSep_univ_equiv flip (fun c : Dev nD => (tkc c 0 : sProp 𝕄)), bigSep_univ_equiv flip (fun c : Dev nD => (tkc c 5 : sProp 𝕄)), bigSep_univ_equiv flip (fun c : Dev nD => (tkc c 6 : sProp 𝕄)), bigSep_univ_equiv flip (fun c : Dev nD => (tkc c 7 : sProp 𝕄)), bigSep_univ_equiv flip (fun c : Dev nD => (tkc c 8 : sProp 𝕄))]
  iintro ⟨H0, H1, H2, H3, H4, H5, H6, H7, H8⟩
  isplitl [H1]; · iexact H1
  isplitl [H2]; · iexact H2
  isplitl [H3]; · iexact H3
  isplitl [H4]; · iexact H4
  isplitl [H0]; · iexact H0
  isplitl [H5]; · iexact H5
  isplitl [H6]; · iexact H6
  isplitl [H7]; · iexact H7
  iexact H8

/-- A persistent assertion beside a family goes to each member. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 9 => iprop(∃ κ : ℕ, cellInv ER (Rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hloc⟩
  ihave HK := (BI.bigSep_exists_pi Finset.univ (fun (ck : Dev nD × Fin 9) (κ : ℕ) => (cellInv ER (Rd m) κ (kcell ck) : sProp 𝕄))) $$ HI
  icases HK with ⟨%K, #HI⟩
  ihave Htk := (toks_around (F := F)) $$ Htok
  iapply (bigSep_beside (R := records m K) (Φ := fun c => linear c) fun c _ => (by
    unfold G'; iintro ⟨#HR, HL⟩; iexists K; isplitr; · iexact HR
    iexact HL))
  isplitr
  · unfold records; isplitl; · iexact HI
    iexact HR
  · unfold linear
    rw [bigSep_sep', bigSep_sep']
    isplitl [Hat]
    · have hp : (bigSep Finset.univ fun c : Dev nD => bigSep Finset.univ fun k : Fin 9 => (atPos ER (kcell (c, k)) 0 ∅ 0 : sProp 𝕄))
          ⊢ bigSep Finset.univ fun c : Dev nD => (places c : sProp 𝕄) :=
        bigSep_mono fun c _ => Entails.of_eq (show _ = places c from (bigSep_fin9 _).trans rfl)
      iapply hp
      iexact Hat
    isplitl [Htk]; · iexact Htk
    iexact Hloc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credits -/

theorem tally_at (d c : Dev nD) (j k : Fin 9) (n : ℕ) :
    (tallyAt (kcell (peer d, j)) () n : CellTallies nD τ sig Unit) (kcell (c, k)) () = if d = peer c ∧ j = k then n else 0 := by
  rw [tallyAt_apply]
  by_cases h : d = peer c ∧ j = k
  · rw [if_pos h, if_pos ⟨by rw [h.1, h.2, peer_peer], rfl⟩]
  · rw [if_neg h, if_neg]
    rintro ⟨h1, -⟩
    have h2 := kcell_injective h1
    refine h ⟨?_, (congrArg Prod.snd h2).symm⟩
    have h3 : c = peer d := congrArg Prod.fst h2
    rw [h3, peer_peer]

/-- What device `d` owes device `c`'s cell `k`. -/
theorem owed_at (d c : Dev nD) (k : Fin 9) (hk : k = 0 ∨ 5 ≤ k) :
    O₀ d (kcell (c, k)) () = if d = peer c then amt k else 0 := by
  unfold O₀ Or O2 O1 O3
  simp only [Pi.add_apply, Finsupp.add_apply, tally_at]
  by_cases h : d = peer c
  · simp only [h, true_and, if_true]
    unfold amt
    rcases hk with rfl | hk
    · rfl
    · revert hk; revert k; intro k hk
      fin_cases k <;> first | (exfalso; revert hk; decide) | simp
  · simp only [h, false_and, if_false]

theorem launch_at (c : Dev nD) (k : Fin 9) (hk : k = 0 ∨ 5 ≤ k) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (peer c) fun _ => amt k, if_pos (Finset.mem_univ _)]

theorem creds (c : Dev nD) : (Pipeline.launchCred O₀ c : sProp 𝕄) ⊢ creds0 c := by
  have h : (Pipeline.launchCred O₀ c : sProp 𝕄) ⊢ bigSep (Finset.univ.map ⟨csem, csem_injective⟩) fun sm : SemLoc sig =>
      (cred (tallyOn ((c : Thread nD τ), sm) (launchCredit (Pipeline.owing O₀) 0 ((c : Thread nD τ), sm))) : sProp 𝕄) :=
    bigSep_subset (Finset.subset_univ _)
  have h2 : (Pipeline.launchCred O₀ c : sProp 𝕄) ⊢ bigSep Finset.univ fun k : Fin 9 =>
      (cred (tallyOn (kcell (c, k)) (launchCredit (Pipeline.owing O₀) 0 (kcell (c, k)))) : sProp 𝕄) :=
    h.trans (Entails.of_eq (by rw [bigSep_map]; rfl))
  refine h2.trans ?_
  rw [bigSep_fin9, launch_at c 0 (Or.inl rfl), launch_at c 5 (Or.inr (by decide)), launch_at c 6 (Or.inr (by decide)),
    launch_at c 7 (Or.inr (by decide)), launch_at c 8 (Or.inr (by decide))]
  unfold creds0
  iintro ⟨H0, -, -, -, -, H5, H6, H7, H8⟩
  isplitl [H0]; · iexact H0
  isplitl [H5]; · iexact H5
  isplitl [H6]; · iexact H6
  isplitl [H7]; · iexact H7
  iexact H8

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  iintro ⟨⟨Hx, H1, H2⟩, Hlev, Hcr, -, HG⟩
  ihave Hc := (creds (F := F) c) $$ Hcr
  imodintro
  unfold start hbm
  isplitl
  · isplitl [HG]; · iexact HG
    isplitl [Hc]; · iexact Hc
    isplitl [Hlev]; · iexact Hlev
    isplitl [Hx]; · iexact Hx
    isplitl [H1]; · iexact H1
    iexact H2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop((unscopedSems0 c ∗ hbm m c) ∗ Pipeline.ownSems0 osem c ∗ Pipeline.scopedRest cfg0.spec c) := by
  rw [show (dats m ρ 0 c).Φ (Fin.last cfg0.N) = Φ₁ m c from rfl, ownSems0_eq, unscopedSems0_eq]
  unfold Φ₁ closed localSems
  iintro ⟨Hb, ⟨H0, H1, H2, H3, H4, H5, H6, H7, H8⟩, ⟨Hx, Hw0, Hw1⟩, Hr⟩
  isplitl [Hb H0]
  · isplitl [H0]; · iexact H0
    iexact Hb
  isplitr [Hr]
  · isplitl [Hx]; · iexact Hx
    isplitl [Hw0]; · iexact Hw0
    isplitl [Hw1]; · iexact Hw1
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_O₀ c _ (by fin_cases w <;> fin_cases s <;> decide)
    · exact mayWait_zero' c _

/-! ### The run -/

/-- What the staged arrays hold at the end. -/
def finalA (c : Dev nD) (w : Fin cfg0.W) : Buf (Elt F) ((cfg0.win w).arr.view.loc (c : Thread nD τ)) := (dats m ρ 0 c).arrAt w cfg0.N

theorem finalA_in (c : Dev nD) : finalA m ρ c (0 : Fin 2) = m ((c : Thread nD τ).loc main_arg1) :=
  (dats (F := F) m ρ 0 c).arrAt_in (0 : Fin 2) rfl _
/-- The one block of a staged array is the whole of it. -/
theorem emb_out (i : S1024x1024.Idx) : (win0_1.blk (0 : Fin 1)).view.emb i = i := by
  funext a; fin_cases a <;> exact Fin.ext (by show 0 * 1024 + 1 * _ = _; omega)
theorem emb_in (i : S1024x1.Idx) : (win0_0.blk (0 : Fin 1)).view.emb i = i := by
  funext a; fin_cases a <;> exact Fin.ext (by show 0 * _ + 1 * _ = _; omega)
theorem read_out (X : S1024x1024.Idx → Elt F .f32) : (win0_1.blk (0 : Fin 1)).view.read (Elt F) X = X :=
  funext fun i => congrArg X (emb_out i)
theorem aAt_eq (c : Dev nD) : aAt m c = m ((c : Thread nD τ).loc main_arg1) :=
  funext fun i => congrArg (m ((c : Thread nD τ).loc main_arg1)) (emb_in i)
theorem finalA_out (c : Dev nD) : finalA m ρ c (1 : Fin 2) = outAt m c := by
  unfold finalA
  refine ((dats m ρ 0 c).arrAt_succ (1 : Fin 2) t0_0).trans ?_
  rw [if_pos (flush0_1 t0_0)]
  have h : ((cfg0.win (1 : Fin 2)).blk t0_0).view.read (Elt F) (((cfg0.win (1 : Fin 2)).blk t0_0).view.write (Elt F) ((dats m ρ 0 c).arrAt (1 : Fin 2) t0_0)
      ((dats m ρ 0 c).flushed (1 : Fin 2) t0_0) Finset.univ) = (dats m ρ 0 c).flushed (1 : Fin 2) t0_0 := View.read_write_univ ..
  exact (read_out _).symm.trans h

/-- What a final memory holds: the arguments as they were, the result computed, the semaphores at zero. -/
def Done (r : PUnit × MemSt nD τ sig (Elt F)) : Prop :=
  (∀ c : Dev nD, r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

theorem hbm_read (c : Dev nD) (s : Phys nD τ sig (Elt F)) :
    iprop(hbm m c ∗ SI s) ⊢ (iprop(⌜s.mem.mem ((c : Thread nD τ).loc main_arg0) = m ((c : Thread nD τ).loc main_arg0)
      ∧ s.mem.mem ((c : Thread nD τ).loc main_arg2) = m ((c : Thread nD τ).loc main_arg2)
      ∧ s.mem.mem ((c : Thread nD τ).loc main_arg3) = m ((c : Thread nD τ).loc main_arg3)⌝ ∗ SI s) : sProp 𝕄) := by
  have h := pointsTo_read_all (Ix := Unit) (Name := ℕ) (U := UU) (Lvl := ℕ) ([main_arg0, main_arg2, main_arg3].toFinset : Finset (Ref sig .tc))
    (fun b => (c : Thread nD τ).loc b) (fun b => m ((c : Thread nD τ).loc b)) s
  have hb : (hbm m c : sProp 𝕄) ⊢ bigSep ([main_arg0, main_arg2, main_arg3].toFinset : Finset (Ref sig .tc)) fun b =>
      (((c : Thread nD τ).loc b) ↦{fullShare} m ((c : Thread nD τ).loc b) : sProp 𝕄) :=
    Entails.of_eq (by rw [bigSep_eq_bigSepL_of_eq [main_arg0, main_arg2, main_arg3] rfl (by decide)]; rfl)
  refine (sep_mono_left hb).trans (h.trans (sep_mono_left ?_))
  refine BI.pure_mono fun h => ⟨h _ (by decide), h _ (by decide), h _ (by decide)⟩

set_option maxRecDepth 100000 in
/-- From any memory with zero counters, on every device, for any float values: every weakly fair execution of the program
    ends, without fault, in a memory as `Done` says. -/
theorem run_main : θ_run defs (onTc (τ := τ) (main (F := F))) (s₀ m ρ) (Done m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_parts _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ hbm m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg2) = m ((c : Thread nD τ).loc main_arg2)
      ∧ s.mem ((c : Thread nD τ).loc main_arg3) = m ((c : Thread nD τ).loc main_arg3))
    (hY := fun c s' => by
      iintro ⟨⟨Hu, Hb⟩, -, HSI⟩
      ihave H := (hbm_read m c s') $$ [Hb HSI]
      · isplitl [Hb] <;> iassumption
      icases H with ⟨%hb, HSI⟩
      imod (Pipeline.unscopedSems0_read (X := unscopedSems0 c) (c := c) fupd_intro s') $$ [Hu HSI] with ⟨%hz, HSI⟩
      · isplitl [Hu] <;> iassumption
      imodintro
      isplitr; · (ipureintro; exact ⟨hz, hb⟩)
      iexact HSI)
    (hQ := fun r h hs => ⟨fun c => ⟨((h c).1 (1 : Fin 2)).trans (finalA_out m ρ c), (h c).2.2.2.1, ((h c).1 (0 : Fin 2)).trans (finalA_in m ρ c),
      (h c).2.2.2.2.1, (h c).2.2.2.2.2⟩, sem_eq_zero hs fun c => (h c).2.2.1⟩)
end Cert.MoE

end
-- ==== Proof.Value.lean ====
/-
The kernel's values at the exact numbers: a token's row goes to one column of the dispatch matrices, its expert is applied
to that row, and the combine matrices bring the row back.
-/
module

public import proofs.«01_k».proof.Proof.Protocol
public import Idealize.ShloMosaic.PureOps.Ideal.Laws
public import Idealize.ShloMosaic.Lib.ValueIdxCore
public import Idealize.ShloMosaic.Lib.MatmulPlain
public import Idealize.ShloMosaic.Lib.Pipeline.Value
public import Idealize.ShloMosaic.Lib.ValueLayoutCasts
public import Idealize.ShloMosaic.Lib.ValueLayout

@[expose] public section

noncomputable section

namespace Cert.MoE

open Cert.KernelIdeal Cert.KernelIdeal.Gen
open Idealize.ShloMosaic Idealize.ShloMosaic.ValueIdx
open scoped BigOperators

/-! ## Single operations at an index -/

/-- A product contracting both operands' first axes, read at an index. -/
theorem matmul_tl {K M N : ℕ} {φ₁ φ₂ : FTy} (w : DotDims.WF ⟨2, ![K, M]⟩ ⟨2, ![K, N]⟩ ⟨2, ![M, N]⟩ [0] [0] [1] [1] [] [])
    (prec : Option ContractPrecision) (lhs : FVec Ideal ⟨2, ![K, M]⟩ φ₁) (rhs : FVec Ideal ⟨2, ![K, N]⟩ φ₂)
    (acc : FVec Ideal ⟨2, ![M, N]⟩ .f32) (r : Fin M) (c : Fin N) :
    FloatOps.matmul (⟨[0], [0], [1], [1], [], [], w⟩ : DotDims ⟨2, ![K, M]⟩ ⟨2, ![K, N]⟩ ⟨2, ![M, N]⟩) prec lhs rhs acc (ix2 r c)
      = acc (ix2 r c) + ∑ k : Fin K, lhs (ix2 k r) * rhs (ix2 k c) := by
  rw [Ideal.matmul_apply, ← Equiv.sum_comp (contrEquiv1 (⟨[0], [0], [1], [1], [], [], w⟩ : DotDims ⟨2, ![K, M]⟩ ⟨2, ![K, N]⟩ ⟨2, ![M, N]⟩) K rfl rfl).symm]
  congr 1
  refine Finset.sum_congr rfl fun k _ => ?_
  have hk := contrEquiv1_symm_val (⟨[0], [0], [1], [1], [], [], w⟩ : DotDims ⟨2, ![K, M]⟩ ⟨2, ![K, N]⟩ ⟨2, ![M, N]⟩) K rfl rfl k
  congr 2
  · funext a; apply Fin.ext
    match a with
    | ⟨0, _⟩ => simp [DotDims.lhsIdx]; exact hk
    | ⟨1, _⟩ => simp [DotDims.lhsIdx]; rfl
  · funext a; apply Fin.ext
    match a with
    | ⟨0, _⟩ => simp [DotDims.rhsIdx]; exact hk
    | ⟨1, _⟩ => simp [DotDims.rhsIdx]; rfl

/-- A bit widened and converted is 1 or 0. -/
theorem hot_apply {s : Shape} (p : IVec s 1) (h : 1 < 32) (h' : FTy.bits .bf16 < FTy.bits .f32) (i : s.Idx) :
    (truncf .bf16 (sitofp .f32 (extui 32 p h) : FVec Ideal s .f32) h' : FVec Ideal s .bf16) i = if p i = 1#1 then (1 : EReal) else 0 := by
  show (((p i).setWidth 32).toInt : ℝ) = if p i = 1#1 then (1 : EReal) else 0
  rcases BitVec.eq_zero_or_eq_one (p i) with e | e <;> rw [e] <;> simp

/-- The comparison for equality is the bit of the equality. -/
theorem eq_bit {s : Shape} {w : ℕ} (a b : IVec s w) (i : s.Idx) : cmpi .eq a b i = 1#1 ↔ a i = b i := by
  show BitVec.ofBool (a i == b i) = 1#1 ↔ _
  by_cases h : a i = b i
  · simp [h]
  · have h' : (a i == b i) = false := by simpa using h
    rw [h']; simp [h]

/-- A natural below two to the thirty-first, converted and truncated, is itself. -/
theorem fptosi_nat (n : ℕ) (h : n < 2 ^ 31) : Ideal.fptosi 32 ((n : ℝ) : EReal) = BitVec.ofNat 32 n := by
  rw [Ideal.fptosi, Ideal.toIntClamped_coe, if_pos (Nat.cast_nonneg n), Int.floor_natCast]
  have h2 : min (((2 ^ (32 - 1) : ℕ) : ℤ) - 1) (n : ℤ) = n := by
    apply min_eq_right; norm_num; omega
  have h3 : max (-((2 ^ (32 - 1) : ℕ) : ℤ)) (n : ℤ) = n := by
    apply max_eq_right; norm_num
  rw [h2, h3]; rfl

/-- A sum of a one-hot row against a vector is the entry the row names. -/
theorem sum_hot {n : ℕ} (k : Fin n) (p : Fin n → Prop) [DecidablePred p] (hp : ∀ j, p j ↔ j = k) (f : Fin n → EReal) :
    ∑ j, (if p j then (1 : EReal) else 0) * f j = f k := by
  rw [Finset.sum_eq_single k]
  · rw [if_pos ((hp k).2 rfl), one_mul]
  · intro j _ hj; rw [if_neg (fun h => hj ((hp j).1 h)), zero_mul]
  · intro h; exact absurd (Finset.mem_univ k) h
/-- A sum of an empty row is zero. -/
theorem sum_cold {n : ℕ} (p : Fin n → Prop) [DecidablePred p] (hp : ∀ j, ¬ p j) (f : Fin n → EReal) :
    ∑ j, (if p j then (1 : EReal) else 0) * f j = 0 :=
  Finset.sum_eq_zero fun j _ => by rw [if_neg (hp j), zero_mul]

/-- A sum of ones and zeros is a count. -/
theorem sum_count {ι : Type} (S : Finset ι) (p : ι → Prop) [DecidablePred p] :
    ∑ k ∈ S, (if p k then (1 : EReal) else 0) = (((S.filter p).card : ℕ) : ℝ) := by
  classical
  induction S using Finset.induction_on with
  | empty => simp
  | insert a S ha ih =>
    rw [Finset.sum_insert ha, ih, Finset.filter_insert]
    by_cases h : p a
    · rw [if_pos h, if_pos h, Finset.card_insert_of_notMem (fun hm => ha (Finset.mem_filter.1 hm).1), Nat.cast_add, Nat.cast_one,
        EReal.coe_add, EReal.coe_one, add_comm]
    · rw [if_neg h, if_neg h, zero_add]

/-- A column repeated along the second axis. -/
theorem column_apply {k : ℕ} {α : Type} (x : S1024x1.Idx → α) (h : S1024x1.Broadcasts ⟨2, ![1024, k]⟩)
    (i : Fin 1024) (j : Fin k) : broadcastTo ⟨2, ![1024, k]⟩ x h (ix2 i j) = x (ix2 i 0) := by
  apply broadcastTo_apply
  intro a
  match a with
  | ⟨0, _⟩ => rfl
  | ⟨1, _⟩ => rfl

/-- The coordinate along the second axis. -/
theorem iota1_apply {n k : ℕ} (h : (⟨2, ![n, k]⟩ : Shape).Iotas .tc 32 [1]) (i : Fin n) (j : Fin k) :
    iota .tc ⟨2, ![n, k]⟩ 32 [1] h (ix2 i j) = BitVec.ofNat 32 j.val := iota_single_apply _ _ _ _ _ _
/-- The coordinate along the first axis. -/
theorem iota0_apply {n k : ℕ} (h : (⟨2, ![n, k]⟩ : Shape).Iotas .tc 32 [0]) (i : Fin n) (j : Fin k) :
    iota .tc ⟨2, ![n, k]⟩ 32 [0] h (ix2 i j) = BitVec.ofNat 32 i.val := iota_single_apply _ _ _ _ _ _

/-- Words of small naturals are equal when the naturals are. -/
theorem word_inj {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

/-- Comparing words of small naturals compares the naturals. -/
theorem sgt_bit {a b : ℕ} (ha : a < 2 ^ 31) (hb : b < 2 ^ 31) : IntOp.cmpi .sgt (BitVec.ofNat 32 a) (BitVec.ofNat 32 b) = 1#1 ↔ b < a := by
  show BitVec.ofBool (BitVec.slt (BitVec.ofNat 32 b) (BitVec.ofNat 32 a)) = 1#1 ↔ _
  rw [BitVec.slt_eq_decide]
  have h1 : (BitVec.ofNat 32 a).toInt = a := by rw [BitVec.toInt_eq_toNat_of_lt (by simp; omega)]; simp; omega
  have h2 : (BitVec.ofNat 32 b).toInt = b := by rw [BitVec.toInt_eq_toNat_of_lt (by simp; omega)]; simp; omega
  rw [h1, h2]
  by_cases h : b < a <;> simp [h]

/-! ## A token's column -/

section Column
variable (α : Fin 1024 → Fin 4)

/-- How many earlier tokens of a device have a token's expert. -/
def rank (i : Fin 1024) : ℕ := (Finset.univ.filter fun j : Fin 1024 => j < i ∧ α j = α i).card
/-- A token's column: its expert's slot, counted from the device's own pair, and its rank there. -/
def dcol (px : Fin 2) (i : Fin 1024) : ℕ := ((α i).val + 2 * px.val) % 4 * 288 + rank α i

variable {α}

theorem rank_lt (hc : ∀ e, (Finset.univ.filter fun j : Fin 1024 => α j = e).card ≤ 288) (i : Fin 1024) : rank α i < 288 := by
  refine lt_of_lt_of_le (Finset.card_lt_card ?_) (hc (α i))
  refine ⟨fun j hj => ?_, fun h => ?_⟩
  · exact Finset.mem_filter.2 ⟨Finset.mem_univ _, (Finset.mem_filter.1 hj).2.2⟩
  · have := h (Finset.mem_filter.2 ⟨Finset.mem_univ i, rfl⟩)
    exact lt_irrefl _ (Finset.mem_filter.1 this).2.1

theorem rank_lt_rank {i j : Fin 1024} (h : i < j) (e : α i = α j) : rank α i < rank α j := by
  refine Finset.card_lt_card ⟨fun k hk => ?_, fun hs => ?_⟩
  · obtain ⟨-, h1, h2⟩ := Finset.mem_filter.1 hk
    exact Finset.mem_filter.2 ⟨Finset.mem_univ _, h1.trans h, h2.trans e⟩
  · have := hs (Finset.mem_filter.2 ⟨Finset.mem_univ i, h, e⟩)
    exact lt_irrefl _ (Finset.mem_filter.1 this).2.1

theorem dcol_inj (hc : ∀ e, (Finset.univ.filter fun j : Fin 1024 => α j = e).card ≤ 288) (px : Fin 2) {i j : Fin 1024}
    (h : dcol α px i = dcol α px j) : i = j := by
  have hi := rank_lt hc i
  have hj := rank_lt hc j
  unfold dcol at h
  have e : α i = α j := by
    apply Fin.ext
    have := (α i).isLt; have := (α j).isLt; have := px.isLt
    omega
  have er : rank α i = rank α j := by rw [e] at h; omega
  rcases lt_trichotomy i j with h | h | h
  · exact absurd er (rank_lt_rank h e).ne
  · exact h
  · exact absurd er.symm (rank_lt_rank h e.symm).ne

theorem rank_le (i : Fin 1024) : rank α i ≤ 1024 := (Finset.card_le_univ _).trans (by simp)
theorem dcol_le (px : Fin 2) (i : Fin 1024) : dcol α px i < 2000 := by
  have := rank_le (α := α) i; unfold dcol; omega

/-- The slot's word. -/
theorem slot_word (a : Fin 4) (px : Fin 2) :
    IntOp.muli (IntOp.remsi .vector (IntOp.addi (BitVec.ofNat 32 a.val) (IntOp.muli 2#32 (BitVec.ofNat 32 px.val))) 4#32) 288#32
      = BitVec.ofNat 32 ((a.val + 2 * px.val) % 4 * 288) := by
  revert a px; decide

/-- The kernel's column of a token. -/
theorem pay4_apply (px : Fin 2) (A : IVec S1024x1 32) (hA : ∀ i, A (ix2 i 0) = BitVec.ofNat 32 (α i).val) (i : Fin 1024) :
    k0_pay4 (F := Ideal) (BitVec.ofNat 32 px.val) (k0_pay2 (F := Ideal) A) (k0_pay3 (F := Ideal) A) (ix2 i 0) = BitVec.ofNat 32 (dcol α px i) := by
  have h2 : k0_pay2 (F := Ideal) A = A := shapeCast_self _ _
  have hoh : ∀ (j : Fin 1024) (e : Fin 4), (truncf .bf16 (sitofp .f32 (extui 32 (k0_pay3 (F := Ideal) A) natLt_1_32) : FVec Ideal S1024x4 .f32) bitsLt_bf16_f32 : FVec Ideal S1024x4 .bf16) (ix2 j e)
      = if α j = e then (1 : EReal) else 0 := by
    intro j e
    rw [hot_apply]
    refine if_congr ?_ rfl rfl
    unfold k0_pay3
    rw [h2]
    refine (eq_bit _ _ _).trans ?_
    rw [column_apply, iota1_apply, hA, word_inj (by omega) (by omega), Fin.ext_iff]
  have hlt : ∀ (j k : Fin 1024), (truncf .bf16 (sitofp .f32 (extui 32 (cmpi .sgt (iota .tc S1024x1024 32 [0] iota_S1024x1024_d0_w32) (iota .tc S1024x1024 32 [1] iota_S1024x1024_d1_w32)) natLt_1_32) : FVec Ideal S1024x1024 .f32) bitsLt_bf16_f32 : FVec Ideal S1024x1024 .bf16) (ix2 j k)
      = if k < j then (1 : EReal) else 0 := by
    intro j k
    rw [hot_apply]
    refine if_congr ?_ rfl rfl
    show IntOp.cmpi .sgt (iota .tc S1024x1024 32 [0] _ (ix2 j k)) (iota .tc S1024x1024 32 [1] _ (ix2 j k)) = 1#1 ↔ _
    rw [iota0_apply, iota1_apply, sgt_bit (by omega) (by omega), Fin.lt_def]
  have h39 : ∀ (j : Fin 1024) (e : Fin 4), FloatOps.matmul dot_S1024x1024_S1024x4_S1024x4_1_0_0_1_n_n none
      (truncf .bf16 (sitofp .f32 (extui 32 (cmpi .sgt (iota .tc S1024x1024 32 [0] iota_S1024x1024_d0_w32) (iota .tc S1024x1024 32 [1] iota_S1024x1024_d1_w32)) natLt_1_32) : FVec Ideal S1024x1024 .f32) bitsLt_bf16_f32 : FVec Ideal S1024x1024 .bf16)
      (truncf .bf16 (sitofp .f32 (extui 32 (k0_pay3 (F := Ideal) A) natLt_1_32) : FVec Ideal S1024x4 .f32) bitsLt_bf16_f32 : FVec Ideal S1024x4 .bf16)
      (constant S1024x4 .f32 0x00000000#32) (ix2 j e) = ((((Finset.univ.filter fun k : Fin 1024 => k < j ∧ α k = e).card : ℕ) : ℝ) : EReal) := by
    intro j e
    refine (Ideal.matmul_plain_apply (M := 1024) (K := 1024) (N := 4) _ _ _ _ j e).trans ?_
    rw [show (constant (F := Ideal) S1024x4 .f32 0x00000000#32) (ix2 j e) = 0 from Ideal.ofBits_zero_f32, zero_add]
    rw [← sum_count]
    refine Finset.sum_congr rfl fun k _ => ?_
    refine (congrArg₂ (· * ·) (hlt j k) (hoh k e)).trans ?_
    by_cases h1 : k < j <;> by_cases h2 : α k = e <;> simp [h1, h2]
  have h42 : ∀ j : Fin 1024, ∑ e : Fin 4, (if α j = e then (1 : EReal) else 0) * ((((Finset.univ.filter fun k : Fin 1024 => k < j ∧ α k = e).card : ℕ) : ℝ) : EReal)
      = (((rank α j : ℕ) : ℝ) : EReal) := fun j =>
    sum_hot (α j) (fun e => α j = e) (fun e => eq_comm) fun e => ((((Finset.univ.filter fun k : Fin 1024 => k < j ∧ α k = e).card : ℕ) : ℝ) : EReal)
  unfold k0_pay4
  rw [h2]
  refine (congrArg₂ (fun a b => IntOp.addi (IntOp.muli (IntOp.remsi .vector (IntOp.addi a (IntOp.muli 2#32 (BitVec.ofNat 32 px.val))) 4#32) 288#32) b)
    (hA i) (y' := BitVec.ofNat 32 (rank α i)) ?_).trans ?_
  · refine (congrArg (Ideal.fptosi 32) ?_).trans (fptosi_nat (rank α i) (by have := rank_le (α := α) i; omega))
    refine (shapeCast_a_a1_apply _ _ i 0).trans ?_
    refine (Ideal.multiReduction_add_single _ _ _ _ _ _).trans ?_
    refine Eq.trans ?_ (h42 i)
    refine Finset.sum_congr rfl fun e _ => ?_
    have hl : reduces_S1024x4_S1024.lift (ix1 i) e = ix2 i e := by
      funext a
      match a with
      | ⟨0, _⟩ => rfl
      | ⟨1, _⟩ => rfl
    refine (congrArg _ hl).trans ?_
    exact congrArg₂ (· * ·) (hoh i e) (h39 i e)
  · show IntOp.addi (IntOp.muli (IntOp.remsi .vector (IntOp.addi (BitVec.ofNat 32 (α i).val) (IntOp.muli 2#32 (BitVec.ofNat 32 px.val))) 4#32) 288#32) _ = _
    rw [slot_word, dcol, BitVec.ofNat_add]
    rfl

end Column

/-! ## The dispatch and combine matrices -/

section Hot
variable (X : IVec S1024x1 32) (D : Fin 1024 → ℕ) (hX : ∀ i, X (ix2 i 0) = BitVec.ofNat 32 (D i)) (hD : ∀ i, D i < 2000)
include hX hD

/-- A one-hot matrix: the row of a token has its one at the column whose number the token carries. -/
theorem hot_col {k : ℕ} (V : IVec ⟨2, ![1024, k]⟩ 32) (n : Fin k → ℕ) (hn : ∀ j, n j < 2000) (hV : ∀ i j, V (ix2 i j) = BitVec.ofNat 32 (n j))
    (hb : S1024x1.Broadcasts ⟨2, ![1024, k]⟩) (h : 1 < 32) (h' : FTy.bits .bf16 < FTy.bits .f32) (i : Fin 1024) (j : Fin k) :
    (truncf .bf16 (sitofp .f32 (extui 32 (cmpi .eq (broadcastTo ⟨2, ![1024, k]⟩ X hb) V) h) : FVec Ideal ⟨2, ![1024, k]⟩ .f32) h' : FVec Ideal ⟨2, ![1024, k]⟩ .bf16) (ix2 i j)
      = if D i = n j then (1 : EReal) else 0 := by
  rw [hot_apply]
  refine if_congr ?_ rfl rfl
  refine (eq_bit _ _ _).trans ?_
  rw [column_apply, hV, hX, word_inj (by have := hD i; omega) (by have := hn j; omega)]

/-- The column numbers from `o` on. -/
theorem cols_apply (o : ℕ) (i : Fin 1024) (j : Fin 288) :
    addi v55 (broadcast S1024x288 (BitVec.ofNat 32 o)) (ix2 i j) = BitVec.ofNat 32 (j.val + o) := by
  rw [BitVec.ofNat_add]
  exact congrArg (· + BitVec.ofNat 32 o) (iota1_apply _ i j)

theorem pay8_apply (i : Fin 1024) (j : Fin 576) : k0_pay8 (F := Ideal) X (ix2 i j) = if D i = j.val then (1 : EReal) else 0 :=
  hot_col X D hX hD _ (fun j => j.val) (fun j => by omega) (fun i j => iota1_apply _ i j) _ _ _ i j

theorem pay10_apply (i : Fin 1024) (j : Fin 288) : k0_pay10 (F := Ideal) X v55 (ix2 i j) = if D i = j.val + 576 then (1 : EReal) else 0 :=
  hot_col X D hX hD _ (fun j => j.val + 576) (fun j => by omega) (fun i j => cols_apply X D hX hD 576 i j) _ _ _ i j

theorem pay11_apply (i : Fin 1024) (j : Fin 288) : k0_pay11 (F := Ideal) X v55 (ix2 i j) = if D i = j.val + 864 then (1 : EReal) else 0 :=
  hot_col X D hX hD _ (fun j => j.val + 864) (fun j => by omega) (fun i j => by
    refine (congrArg (· + 288#32) (cols_apply X D hX hD 576 i j)).trans ?_
    rw [show (288#32 : BitVec 32) = BitVec.ofNat 32 288 from rfl, ← BitVec.ofNat_add]) _ _ _ i j

/-- A gathered row: the row of the token that carries the column's number. -/
theorem pay9_apply (x : FVec Ideal S1024x1024 .bf16) (hinj : ∀ i j, D i = D j → i = j) (i : Fin 1024) (k : Fin 576) (hk : D i = k.val) (d : Fin 1024) :
    k0_pay9 (F := Ideal) x (k0_pay8 (F := Ideal) X) (ix2 k d) = x (ix2 i d) := by
  refine (matmul_tl (K := 1024) (M := 576) (N := 1024) _ none _ _ _ k d).trans ?_
  rw [show (constant (F := Ideal) S576x1024 .f32 0x00000000#32) (ix2 k d) = 0 from Ideal.ofBits_zero_f32, zero_add]
  refine Eq.trans (Finset.sum_congr rfl fun j _ => congrArg (· * x (ix2 j d)) (pay8_apply X D hX hD j k)) ?_
  exact sum_hot i (fun j => D j = k.val) (fun j => ⟨fun e => hinj j i (e.trans hk.symm), fun e => e ▸ hk⟩) fun j => x (ix2 j d)

theorem gather_apply (x : FVec Ideal S1024x1024 .bf16) (hinj : ∀ i j, D i = D j → i = j) (o : ℕ) (ho : o ≤ 864) (h : 1 < 32) (h' h'' : FTy.bits .bf16 < FTy.bits .f32)
    (hb : S1024x1.Broadcasts S1024x288) (hc : S288x1024.ShapeCasts S288x1024) (i : Fin 1024) (k : Fin 288) (hk : D i = k.val + o) (d : Fin 1024) :
    shapeCast S288x1024 (truncf .bf16 (matmul dot_S1024x288_S1024x1024_S288x1024_0_0_1_1_n_n none
      (truncf .bf16 (sitofp .f32 (extui 32 (cmpi .eq (broadcastTo S1024x288 X hb) (addi v55 (broadcast S1024x288 (BitVec.ofNat 32 o)))) h) : FVec Ideal S1024x288 .f32) h' : FVec Ideal S1024x288 .bf16)
      x (constant S288x1024 .f32 0x00000000#32)) h'' : FVec Ideal S288x1024 .bf16) hc (ix2 k d) = x (ix2 i d) := by
  rw [shapeCast_self]
  refine (matmul_tl (K := 1024) (M := 288) (N := 1024) _ none _ _ _ k d).trans ?_
  rw [show (constant (F := Ideal) S288x1024 .f32 0x00000000#32) (ix2 k d) = 0 from Ideal.ofBits_zero_f32, zero_add]
  refine Eq.trans (Finset.sum_congr rfl fun j _ => congrArg (· * x (ix2 j d))
    (hot_col X D hX hD _ (fun j => j.val + o) (fun j => by omega) (fun i j => cols_apply X D hX hD o i j) hb h h' j k)) ?_
  exact sum_hot i (fun j => D j = k.val + o) (fun j => ⟨fun e => hinj j i (e.trans hk.symm), fun e => e ▸ hk⟩) fun j => x (ix2 j d)

theorem pay7_apply (x : FVec Ideal S1024x1024 .bf16) (hinj : ∀ i j, D i = D j → i = j) (i : Fin 1024) (k : Fin 288) (hk : D i = k.val + 864) (d : Fin 1024) :
    k0_pay7 (F := Ideal) X x v55 (ix2 k d) = x (ix2 i d) :=
  gather_apply X D hX hD x hinj 864 (by omega) _ _ _ _ _ i k hk d

end Hot

theorem pay6_apply (px : BitVec 32) (A : IVec S1024x1 32) (B : IVec S1024x4 1) (D : Fin 1024 → ℕ)
    (hX : ∀ i, k0_pay4 (F := Ideal) px A B (ix2 i 0) = BitVec.ofNat 32 (D i)) (hD : ∀ i, D i < 2000)
    (x : FVec Ideal S1024x1024 .f32) (hinj : ∀ i j, D i = D j → i = j) (i : Fin 1024) (k : Fin 288) (hk : D i = k.val + 576) (d : Fin 1024) :
    k0_pay6 (F := Ideal) px A B x (ix2 k d) = x (ix2 i d) :=
  gather_apply _ D hX hD (k0_pay5 (F := Ideal) x) hinj 576 (by omega) _ _ _ _ _ i k hk d

/-! ## An expert on a row -/

/-- One output of an expert's two layers on a row. -/
def ffn (x : Fin 1024 → EReal) (W1 : Fin 1024 → Fin 2048 → EReal) (W2 : Fin 2048 → Fin 1024 → EReal) (d : Fin 1024) : EReal :=
  ∑ j, max (∑ t, x t * W1 t j) 0 * W2 j d

/-- The kernel's text of an expert, on a block of rows, at a row. -/
theorem layers_apply (r : FVec Ideal S288x1024 .bf16) (w1 : FVec Ideal S1024x2048 .bf16) (w2 : FVec Ideal S2048x1024 .bf16)
    (h h' : FTy.bits .bf16 < FTy.bits .f32) (hc : S288x1024.ShapeCasts S288x1024) (k : Fin 288) (d : Fin 1024) :
    shapeCast S288x1024 (truncf .bf16 (matmul dot_S288x2048_S2048x1024_S288x1024_1_0_0_1_n_n none
      (truncf .bf16 (maximumf (matmul dot_S288x1024_S1024x2048_S288x2048_1_0_0_1_n_n none r w1 (constant S288x2048 .f32 0x00000000#32))
        (broadcast S288x2048 (Scalar.ofBits .f32 0x00000000#32))) h : FVec Ideal S288x2048 .bf16) w2 (constant S288x1024 .f32 0x00000000#32)) h' : FVec Ideal S288x1024 .bf16) hc (ix2 k d)
      = ffn (fun t => r (ix2 k t)) (fun t j => w1 (ix2 t j)) (fun j d => w2 (ix2 j d)) d := by
  rw [shapeCast_self]
  refine (Ideal.matmul_plain_apply (M := 288) (K := 2048) (N := 1024) none _ _ _ k d).trans ?_
  rw [show (constant (F := Ideal) S288x1024 .f32 0x00000000#32) (ix2 k d) = 0 from Ideal.ofBits_zero_f32, zero_add]
  unfold ffn
  refine Finset.sum_congr rfl fun j _ => congrArg (· * w2 (ix2 j d)) ?_
  refine congrArg₂ max ?_ Ideal.ofBits_zero_f32
  refine (Ideal.matmul_plain_apply (M := 288) (K := 1024) (N := 2048) none _ _ _ k j).trans ?_
  rw [show (constant (F := Ideal) S288x2048 .f32 0x00000000#32) (ix2 k j) = 0 from Ideal.ofBits_zero_f32, zero_add]

theorem pay15_apply (r : FVec Ideal S288x1024 .bf16) (w1 : FVec Ideal S1024x2048 .bf16) (w2 : FVec Ideal S2048x1024 .bf16) (k : Fin 288) (d : Fin 1024) :
    k0_pay15 (F := Ideal) r w1 w2 (ix2 k d) = ffn (fun t => r (ix2 k t)) (fun t j => w1 (ix2 t j)) (fun j d => w2 (ix2 j d)) d :=
  layers_apply r w1 w2 _ _ _ k d
theorem pay18_apply (r : FVec Ideal S288x1024 .bf16) (w1 : FVec Ideal S1024x2048 .bf16) (w2 : FVec Ideal S2048x1024 .bf16) (k : Fin 288) (d : Fin 1024) :
    k0_pay18 (F := Ideal) r w1 w2 (ix2 k d) = ffn (fun t => r (ix2 k t)) (fun t j => w1 (ix2 t j)) (fun j d => w2 (ix2 j d)) d :=
  layers_apply r w1 w2 _ _ _ k d
theorem pay20_apply (r : FVec Ideal S288x1024 .bf16) (w1 : FVec Ideal S1024x2048 .bf16) (w2 : FVec Ideal S2048x1024 .bf16) (k : Fin 288) (d : Fin 1024) :
    k0_pay20 (F := Ideal) r w1 w2 (ix2 k d) = ffn (fun t => r (ix2 k t)) (fun t j => w1 (ix2 t j)) (fun j d => w2 (ix2 j d)) d :=
  layers_apply r w1 w2 _ _ _ k d
theorem pay14_apply (r : FVec Ideal S576x1024 .bf16) (w1 : FVec Ideal S1024x2048 .bf16) (w2 : FVec Ideal S2048x1024 .bf16) (k : Fin 288) (d : Fin 1024) :
    k0_pay14 (F := Ideal) r w1 w2 (ix2 k d)
      = ffn (fun t => r (ix2 (⟨k.val, by omega⟩ : Fin 576) t)) (fun t j => w1 (ix2 t j)) (fun j d => w2 (ix2 j d)) d := by
  refine (layers_apply _ w1 w2 _ _ _ k d).trans ?_
  refine congrArg (fun x => ffn x _ _ d) (funext fun t => ?_)
  refine extractStridedSlice_apply _ r _ _ _ fun a => ?_
  match a with
  | ⟨0, _⟩ => show k.val = 0 + k.val; omega
  | ⟨1, _⟩ => show t.val = 0 + t.val; omega
theorem pay19_apply (r : FVec Ideal S576x1024 .bf16) (k : Fin 288) (t : Fin 1024) :
    k0_pay19 (F := Ideal) r (ix2 k t) = r (ix2 (⟨288 + k.val, by omega⟩ : Fin 576) t) := by
  refine extractStridedSlice_apply _ r slices_S576x1024_o288_0_S288x1024 _ _ fun a => ?_
  match a with
  | ⟨0, _⟩ => rfl
  | ⟨1, _⟩ => show t.val = 0 + t.val; omega

end Cert.MoE
-- ==== Proof.Out.lean ====
/-
The kernel's result on a device at the exact numbers: each row is the token's expert applied to the token's row.
-/
module

public import proofs.«01_k».proof.Proof.Value
public import proofs.«01_k».proof.Proof.Body

@[expose] public section

noncomputable section

namespace Cert.MoE

open Cert.KernelIdeal Cert.KernelIdeal.Gen
open Idealize.ShloMosaic Idealize.ShloMosaic.ValueIdx
open Idealize.ShloMosaic.TcCoe
open scoped BigOperators

/-- The row halves of a 576-row buffer, by row. -/
theorem glue_row_lo {V : Type} (a b : S288x1024.Idx → V) (k : Fin 288) (r : Fin 576) (h : r.val = k.val) (d : Fin 1024) :
    glue a b (ix2 r d) = a (ix2 k d) := by
  refine Eq.trans (congrArg (glue a b) ?_) (glue_lo a b (ix2 k d))
  funext x; apply Fin.ext
  match x with
  | ⟨0, _⟩ => show r.val = 0 + 1 * k.val; omega
  | ⟨1, _⟩ => show d.val = 0 + 1 * d.val; omega
theorem glue_row_hi {V : Type} (a b : S288x1024.Idx → V) (k : Fin 288) (r : Fin 576) (h : r.val = 288 + k.val) (d : Fin 1024) :
    glue a b (ix2 r d) = b (ix2 k d) := by
  refine Eq.trans (congrArg (glue a b) ?_) (glue_hi a b (ix2 k d))
  funext x; apply Fin.ext
  match x with
  | ⟨0, _⟩ => show r.val = 288 + 1 * k.val; omega
  | ⟨1, _⟩ => show d.val = 0 + 1 * d.val; omega

theorem pay21_apply (h : FVec Ideal S1024x576 .bf16) (y : FVec Ideal S576x1024 .bf16) (i d : Fin 1024) :
    k0_pay21 (F := Ideal) h y (ix2 i d) = ∑ k : Fin 576, h (ix2 i k) * y (ix2 k d) := by
  refine (Ideal.matmul_plain_apply (M := 1024) (K := 576) (N := 1024) none _ _ _ i d).trans ?_
  rw [show (constant (F := Ideal) S1024x1024 .f32 0x00000000#32) (ix2 i d) = 0 from Ideal.ofBits_zero_f32, zero_add]

theorem pay1_apply (h h' : FVec Ideal S1024x288 .bf16) (z : FVec Ideal S1024x1024 .f32) (y y' : FVec Ideal S288x1024 .bf16) (i d : Fin 1024) :
    k0_pay1 (F := Ideal) h h' z y y' (ix2 i d)
      = z (ix2 i d) + (∑ k : Fin 288, h (ix2 i k) * y (ix2 k d)) + ∑ k : Fin 288, h' (ix2 i k) * y' (ix2 k d) := by
  have hz : (constant (F := Ideal) S1024x1024 .f32 0x00000000#32) (ix2 i d) = 0 := Ideal.ofBits_zero_f32
  refine congrArg₂ (fun a b : EReal => z (ix2 i d) + a + b)
    ((Ideal.matmul_plain_apply (M := 1024) (K := 288) (N := 1024) none _ _ _ i d).trans ?_)
    ((Ideal.matmul_plain_apply (M := 1024) (K := 288) (N := 1024) none _ _ _ i d).trans ?_)
  · rw [hz, zero_add]
  · rw [hz, zero_add]

/-- A device's first mesh coordinate. -/
def px (c : Dev nD) : Fin 2 := ⟨c.val / 16, by have : c.val < 32 := c.isLt; omega⟩
theorem pxAt_eq (c : Dev nD) : pxAt c = BitVec.ofNat 32 (px c).val := by revert c; decide
theorem px_peer (c : Dev nD) : (px (peer c)).val = 1 - (px c).val := by revert c; decide
/-- A device's expert. -/
def expert (c : Dev nD) (l : Fin 2) : Fin 4 := ⟨2 * (px c).val + l.val, by have := (px c).isLt; omega⟩

/-- What the weights and the assignments of a memory are. -/
structure Reads (m : (ℓ : Loc nD τ sig) → Buf (Elt Ideal) ℓ) (α : Dev nD → Fin 1024 → Fin 4) (W1 : Fin 4 → Fin 1024 → Fin 2048 → EReal)
    (W2 : Fin 4 → Fin 2048 → Fin 1024 → EReal) : Prop where
  asg : ∀ c i, aAt m c (ix2 i 0) = BitVec.ofNat 32 (α c i).val
  cap : ∀ c e, (Finset.univ.filter fun j : Fin 1024 => α c j = e).card ≤ 288
  w10 : ∀ c t j, w1At0 m c (ix2 t j) = W1 (expert c 0) t j
  w11 : ∀ c t j, w1At1 m c (ix2 t j) = W1 (expert c 1) t j
  w20 : ∀ c j d, w2At0 m c (ix2 j d) = W2 (expert c 0) j d
  w21 : ∀ c j d, w2At1 m c (ix2 j d) = W2 (expert c 1) j d

section Dev
variable {m : (ℓ : Loc nD τ sig) → Buf (Elt Ideal) ℓ} {α : Dev nD → Fin 1024 → Fin 4} {W1 : Fin 4 → Fin 1024 → Fin 2048 → EReal}
  {W2 : Fin 4 → Fin 2048 → Fin 1024 → EReal} (R : Reads m α W1 W2) (c : Dev nD)
include R

theorem v52_apply (i : Fin 1024) : v52 (F := Ideal) m c (ix2 i 0) = BitVec.ofNat 32 (dcol (α c) (px c) i) := by
  unfold v52
  rw [pxAt_eq]
  exact pay4_apply (px c) (aAt m c) (R.asg c) i

theorem col_inj (i j : Fin 1024) (h : dcol (α c) (px c) i = dcol (α c) (px c) j) : i = j := dcol_inj (R.cap c) (px c) h

theorem v111_apply (i : Fin 1024) (k : Fin 576) (hk : dcol (α c) (px c) i = k.val) (d : Fin 1024) : v111 (F := Ideal) m c (ix2 k d) = xAt m c (ix2 i d) :=
  pay9_apply (v52 (F := Ideal) m c) _ (v52_apply R c) (dcol_le (px c)) _ (col_inj R c) i k hk d

theorem xg0_apply (i : Fin 1024) (k : Fin 288) (hk : dcol (α c) (px c) i = k.val + 576) (d : Fin 1024) : xg0 (F := Ideal) m c (ix2 k d) = xAt m c (ix2 i d) :=
  pay6_apply (pxAt c) _ _ _ (v52_apply R c) (dcol_le (px c)) _ (col_inj R c) i k hk d

theorem xg1_apply (i : Fin 1024) (k : Fin 288) (hk : dcol (α c) (px c) i = k.val + 864) (d : Fin 1024) : xg1 (F := Ideal) m c (ix2 k d) = xAt m c (ix2 i d) :=
  pay7_apply (v52 (F := Ideal) m c) _ (v52_apply R c) (dcol_le (px c)) _ (col_inj R c) i k hk d

theorem w1b0_apply : (fun t j => w1b0 (F := Ideal) m c (ix2 t j)) = W1 (expert c 0) := by
  funext t j
  exact (congrFun (shapeCast_self (α := EReal) _ _) _).trans (R.w10 c t j)
theorem w1b1_apply : (fun t j => w1b1 (F := Ideal) m c (ix2 t j)) = W1 (expert c 1) := by
  funext t j
  exact (congrFun (shapeCast_self (α := EReal) _ _) _).trans (R.w11 c t j)
theorem w2b0_apply : (fun t j => w2b0 (F := Ideal) m c (ix2 t j)) = W2 (expert c 0) := by
  funext t j
  exact (congrFun (shapeCast_self (α := EReal) _ _) _).trans (R.w20 c t j)
theorem w2b1_apply : (fun t j => w2b1 (F := Ideal) m c (ix2 t j)) = W2 (expert c 1) := by
  funext t j
  exact (congrFun (shapeCast_self (α := EReal) _ _) _).trans (R.w21 c t j)

theorem yl0_apply (i : Fin 1024) (k : Fin 288) (hk : dcol (α c) (px c) i = k.val) (d : Fin 1024) :
    yl0 (F := Ideal) m c (ix2 k d) = ffn (fun t => xAt m c (ix2 i t)) (W1 (expert c 0)) (W2 (expert c 0)) d := by
  refine (pay14_apply _ _ _ k d).trans ?_
  rw [w1b0_apply R c, w2b0_apply R c]
  exact congrArg (fun x => ffn x _ _ d) (funext fun t => v111_apply R c i ⟨k.val, by omega⟩ hk t)
theorem yl1_apply (i : Fin 1024) (k : Fin 288) (hk : dcol (α c) (px c) i = 288 + k.val) (d : Fin 1024) :
    yl1 (F := Ideal) m c (ix2 k d) = ffn (fun t => xAt m c (ix2 i t)) (W1 (expert c 1)) (W2 (expert c 1)) d := by
  refine (pay20_apply _ _ _ k d).trans ?_
  rw [w1b1_apply R c, w2b1_apply R c]
  exact congrArg (fun x => ffn x _ _ d) (funext fun t => (pay19_apply _ k t).trans (v111_apply R c i ⟨288 + k.val, by omega⟩ hk t))
theorem ys0_apply (i : Fin 1024) (k : Fin 288) (hk : dcol (α c) (px c) i = k.val + 576) (d : Fin 1024) :
    ys0 (F := Ideal) m (peer c) (ix2 k d) = ffn (fun t => xAt m c (ix2 i t)) (W1 (expert (peer c) 0)) (W2 (expert (peer c) 0)) d := by
  refine (pay15_apply _ _ _ k d).trans ?_
  rw [w1b0_apply R (peer c), w2b0_apply R (peer c), peer_peer]
  exact congrArg (fun x => ffn x _ _ d) (funext fun t => xg0_apply R c i k hk t)
theorem ys1_apply (i : Fin 1024) (k : Fin 288) (hk : dcol (α c) (px c) i = k.val + 864) (d : Fin 1024) :
    ys1 (F := Ideal) m (peer c) (ix2 k d) = ffn (fun t => xAt m c (ix2 i t)) (W1 (expert (peer c) 1)) (W2 (expert (peer c) 1)) d := by
  refine (pay18_apply _ _ _ k d).trans ?_
  rw [w1b1_apply R (peer c), w2b1_apply R (peer c), peer_peer]
  exact congrArg (fun x => ffn x _ _ d) (funext fun t => xg1_apply R c i k hk t)

/-- The kernel's result: a token's row is its expert on that row. -/
theorem out_apply (i d : Fin 1024) :
    outAt (F := Ideal) m c (ix2 i d) = ffn (fun t => xAt m c (ix2 i t)) (W1 (α c i)) (W2 (α c i)) d := by
  have hr := rank_lt (R.cap c) i
  have hD : dcol (α c) (px c) i = ((α c i).val + 2 * (px c).val) % 4 * 288 + rank (α c) i := rfl
  have ha := (α c i).isLt
  have hp := (px c).isLt
  have hpp := px_peer c
  have h0 : ∑ k : Fin 576, v109 (F := Ideal) m c (ix2 i k) * glue (V := EReal) (yl0 (F := Ideal) m c) (yl1 (F := Ideal) m c) (ix2 k d)
      = ∑ k : Fin 576, (if dcol (α c) (px c) i = k.val then (1 : EReal) else 0) * glue (V := EReal) (yl0 (F := Ideal) m c) (yl1 (F := Ideal) m c) (ix2 k d) :=
    Finset.sum_congr rfl fun k _ => congrArg (· * _) (pay8_apply _ _ (v52_apply R c) (dcol_le (px c)) i k)
  have h1 : ∑ k : Fin 288, v118 (F := Ideal) m c (ix2 i k) * ys0 (F := Ideal) m (peer c) (ix2 k d)
      = ∑ k : Fin 288, (if dcol (α c) (px c) i = k.val + 576 then (1 : EReal) else 0) * ys0 (F := Ideal) m (peer c) (ix2 k d) :=
    Finset.sum_congr rfl fun k _ => congrArg (· * _) (pay10_apply _ _ (v52_apply R c) (dcol_le (px c)) i k)
  have h2 : ∑ k : Fin 288, v127 (F := Ideal) m c (ix2 i k) * ys1 (F := Ideal) m (peer c) (ix2 k d)
      = ∑ k : Fin 288, (if dcol (α c) (px c) i = k.val + 864 then (1 : EReal) else 0) * ys1 (F := Ideal) m (peer c) (ix2 k d) :=
    Finset.sum_congr rfl fun k _ => congrArg (· * _) (pay11_apply _ _ (v52_apply R c) (dcol_le (px c)) i k)
  unfold outAt
  refine (pay1_apply _ _ _ _ _ i d).trans ?_
  refine (congrArg₂ (· + ·) (congrArg₂ (· + ·) ((pay21_apply _ _ i d).trans h0) h1) h2).trans ?_
  have hs : ((α c i).val + 2 * (px c).val) % 4 < 4 := Nat.mod_lt _ (by decide)
  have hs4 : ((α c i).val + 2 * (px c).val) % 4 = 0 ∨ ((α c i).val + 2 * (px c).val) % 4 = 1 ∨ ((α c i).val + 2 * (px c).val) % 4 = 2
      ∨ ((α c i).val + 2 * (px c).val) % 4 = 3 := by omega
  rcases hs4 with hs | hs | hs | hs
  · have he : α c i = expert c 0 := Fin.ext (by show (α c i).val = 2 * (px c).val + 0; omega)
    rw [sum_cold (fun k : Fin 288 => dcol (α c) (px c) i = k.val + 576) (fun k => by omega),
      sum_cold (fun k : Fin 288 => dcol (α c) (px c) i = k.val + 864) (fun k => by omega), add_zero, add_zero,
      sum_hot (⟨rank (α c) i, by omega⟩ : Fin 576) (fun k : Fin 576 => dcol (α c) (px c) i = k.val) (fun k => by rw [Fin.ext_iff]; show _ ↔ k.val = rank (α c) i; omega),
      glue_row_lo _ _ ⟨rank (α c) i, hr⟩ _ rfl, yl0_apply R c i ⟨rank (α c) i, hr⟩ (by show _ = rank (α c) i; omega), ← he]
  · have he : α c i = expert c 1 := Fin.ext (by show (α c i).val = 2 * (px c).val + 1; omega)
    rw [sum_cold (fun k : Fin 288 => dcol (α c) (px c) i = k.val + 576) (fun k => by omega),
      sum_cold (fun k : Fin 288 => dcol (α c) (px c) i = k.val + 864) (fun k => by omega), add_zero, add_zero,
      sum_hot (⟨288 + rank (α c) i, by omega⟩ : Fin 576) (fun k : Fin 576 => dcol (α c) (px c) i = k.val) (fun k => by rw [Fin.ext_iff]; show _ ↔ k.val = 288 + rank (α c) i; omega),
      glue_row_hi _ _ ⟨rank (α c) i, hr⟩ _ rfl, yl1_apply R c i ⟨rank (α c) i, hr⟩ (by show _ = 288 + rank (α c) i; omega), ← he]
  · have he : α c i = expert (peer c) 0 := Fin.ext (by show (α c i).val = 2 * (px (peer c)).val + 0; omega)
    rw [sum_cold (fun k : Fin 576 => dcol (α c) (px c) i = k.val) (fun k => by omega),
      sum_cold (fun k : Fin 288 => dcol (α c) (px c) i = k.val + 864) (fun k => by omega), add_zero, zero_add,
      sum_hot (⟨rank (α c) i, hr⟩ : Fin 288) (fun k : Fin 288 => dcol (α c) (px c) i = k.val + 576) (fun k => by rw [Fin.ext_iff]; show _ ↔ k.val = rank (α c) i; omega),
      ys0_apply R c i ⟨rank (α c) i, hr⟩ (by show _ = rank (α c) i + 576; omega), ← he]
  · have he : α c i = expert (peer c) 1 := Fin.ext (by show (α c i).val = 2 * (px (peer c)).val + 1; omega)
    rw [sum_cold (fun k : Fin 576 => dcol (α c) (px c) i = k.val) (fun k => by omega),
      sum_cold (fun k : Fin 288 => dcol (α c) (px c) i = k.val + 576) (fun k => by omega), zero_add, zero_add,
      sum_hot (⟨rank (α c) i, hr⟩ : Fin 288) (fun k : Fin 288 => dcol (α c) (px c) i = k.val + 864) (fun k => by rw [Fin.ext_iff]; show _ ↔ k.val = rank (α c) i; omega),
      ys1_apply R c i ⟨rank (α c) i, hr⟩ (by show _ = rank (α c) i + 864; omega), ← he]

end Dev

end Cert.MoE
-- ==== Proof.Ref.lean ====
/-
The reference's result at the exact numbers: each row is the token's expert applied to the token's row.
-/
module

public import proofs.«01_k».proof.Proof.Gen.ReferenceIdeal
public import proofs.«01_k».proof.Proof.Gen.ReferenceIdeal.Run
public import proofs.«01_k».proof.Proof.Value
public import Idealize.ShloMosaic.Lib.StackMember

@[expose] public section

noncomputable section

namespace Cert.MoE.Ref

open Cert.ReferenceIdeal Cert.ReferenceIdeal.Gen
open Idealize.ShloMosaic Idealize.ShloMosaic.ValueIdx
open scoped BigOperators

/-- The tokens of one expert, as the reference marks them. -/
def mask (A : IVec S2048x1 32) (e : BitVec 32) : IVec S2048x1024 1 :=
  broadcastInDim S2048x1024 ![0, 1] bcast_S2048x1_S2048x1024_0_1 (broadcastInDim S2048x1 ![0] bcast_S2048_S2048x1_0
    (cmpi .eq (shapeCast _ A shapeCasts_S2048x1_S2048) (broadcastInDim S2048 ![] bcast_S_S2048 (constantI S_ 32 e))))

theorem mask_apply (A : IVec S2048x1 32) (e : BitVec 32) (i : Fin 2048) (d : Fin 1024) : mask A e (ix2 i d) = 1#1 ↔ A (ix2 i 0) = e := by
  have h1 : mask A e (ix2 i d) = cmpi .eq (shapeCast _ A shapeCasts_S2048x1_S2048) (broadcastInDim S2048 ![] bcast_S_S2048 (constantI S_ 32 e)) (ix1 i) :=
    (broadcastInDim_apply _ _ _ _ (ix2 i 0) fun a => match a with | ⟨0, _⟩ => rfl | ⟨1, _⟩ => rfl).trans
      (broadcastInDim_apply _ _ _ _ (ix1 i) fun a => match a with | ⟨0, _⟩ => rfl)
  have h2 : shapeCast S2048 A shapeCasts_S2048x1_S2048 (ix1 i) = A (ix2 i 0) :=
    shapeCast_apply _ _ _ _ (by
      rw [Shape.rowMajor_val_two, Shape.rowMajor_val_one]
      show i.val * 1 + 0 = i.val
      omega)
  rw [h1, eq_bit, h2]
  exact Iff.rfl

/-- One expert's slab of a stack. -/
theorem slab1_apply (W : FVec Ideal S4x1024x2048 .f32) (e : Fin 4) (h : S4x1024x2048.Slices ![e.val, 0, 0] S1x1024x2048) (t : Fin 1024) (j : Fin 2048) :
    shapeCast S1024x2048 (extractStridedSlice S1x1024x2048 ![e.val, 0, 0] W h) shapeCasts_S1x1024x2048_S1024x2048 (ix2 t j) = W (ix3 e t j) := by
  refine (shapeCast_1ab_ab_apply _ _ t j).trans ?_
  refine extractStridedSlice_apply _ W _ _ _ fun a => ?_
  match a with
  | ⟨0, _⟩ => rfl
  | ⟨1, _⟩ => show t.val = 0 + t.val; omega
  | ⟨2, _⟩ => show j.val = 0 + j.val; omega
theorem slab2_apply (W : FVec Ideal S4x2048x1024 .f32) (e : Fin 4) (h : S4x2048x1024.Slices ![e.val, 0, 0] S1x2048x1024) (t : Fin 2048) (j : Fin 1024) :
    shapeCast S2048x1024 (extractStridedSlice S1x2048x1024 ![e.val, 0, 0] W h) shapeCasts_S1x2048x1024_S2048x1024 (ix2 t j) = W (ix3 e t j) := by
  refine (shapeCast_1ab_ab_apply _ _ t j).trans ?_
  refine extractStridedSlice_apply _ W _ _ _ fun a => ?_
  match a with
  | ⟨0, _⟩ => rfl
  | ⟨1, _⟩ => show t.val = 0 + t.val; omega
  | ⟨2, _⟩ => show j.val = 0 + j.val; omega

/-- One expert on all rows, as the reference computes it. -/
def layers (X : FVec Ideal S2048x1024 .f32) (W1 : FVec Ideal S4x1024x2048 .f32) (W2 : FVec Ideal S4x2048x1024 .f32) (e : ℕ)
    (h1 : S4x1024x2048.Slices ![e, 0, 0] S1x1024x2048) (h2 : S4x2048x1024.Slices ![e, 0, 0] S1x2048x1024) : FVec Ideal S2048x1024 .f32 :=
  Host.dotGeneral dot_S2048x2048_S2048x1024_S2048x1024_1_0_0_1_n_n none
    (maximumf (Host.dotGeneral dot_S2048x1024_S1024x2048_S2048x2048_1_0_0_1_n_n none X
        (shapeCast _ (extractStridedSlice S1x1024x2048 ![e, 0, 0] W1 h1) shapeCasts_S1x1024x2048_S1024x2048))
      (broadcastInDim S2048x2048 ![] bcast_S_S2048x2048 (constant S_ .f32 0x00000000#32)))
    (shapeCast _ (extractStridedSlice S1x2048x1024 ![e, 0, 0] W2 h2) shapeCasts_S1x2048x1024_S2048x1024)

theorem layers_apply (X : FVec Ideal S2048x1024 .f32) (W1 : FVec Ideal S4x1024x2048 .f32) (W2 : FVec Ideal S4x2048x1024 .f32) (e : Fin 4)
    (h1 : S4x1024x2048.Slices ![e.val, 0, 0] S1x1024x2048) (h2 : S4x2048x1024.Slices ![e.val, 0, 0] S1x2048x1024) (i : Fin 2048) (d : Fin 1024) :
    layers X W1 W2 e.val h1 h2 (ix2 i d) = ffn (fun t => X (ix2 i t)) (fun t j => W1 (ix3 e t j)) (fun j d => W2 (ix3 e j d)) d := by
  unfold layers
  refine (StackMember.dotGeneral_plain_apply (m := 2048) (k := 2048) (n := 1024) none _ _ i d).trans ?_
  unfold ffn
  refine Finset.sum_congr rfl fun j _ => congrArg₂ (· * ·) ?_ (slab2_apply W2 e h2 j d)
  refine congrArg₂ max ?_ Ideal.ofBits_zero_f32
  refine (StackMember.dotGeneral_plain_apply (m := 2048) (k := 1024) (n := 2048) none _ _ i j).trans ?_
  exact Finset.sum_congr rfl fun t _ => congrArg (X (ix2 i t) * ·) (slab1_apply W1 e h1 t j)

/-- The reference's result. -/
def val (X : FVec Ideal S2048x1024 .f32) (A : IVec S2048x1 32) (W1 : FVec Ideal S4x1024x2048 .f32) (W2 : FVec Ideal S4x2048x1024 .f32) : FVec Ideal S2048x1024 .f32 :=
  select (mask A 3#32) (layers X W1 W2 3 slices_S4x1024x2048_S1x1024x2048_3_0_0 slices_S4x2048x1024_S1x2048x1024_3_0_0)
    (select (mask A 2#32) (layers X W1 W2 2 slices_S4x1024x2048_S1x1024x2048_2_0_0 slices_S4x2048x1024_S1x2048x1024_2_0_0)
      (select (mask A 1#32) (layers X W1 W2 1 slices_S4x1024x2048_S1x1024x2048_1_0_0 slices_S4x2048x1024_S1x2048x1024_1_0_0)
        (select (mask A 0#32) (layers X W1 W2 0 slices_S4x1024x2048_S1x1024x2048_0_0_0 slices_S4x2048x1024_S1x2048x1024_0_0_0)
          (broadcastInDim S2048x1024 ![] bcast_S_S2048x1024 (constant S_ .f32 0x00000000#32)))))

/-- A select at an index whose condition is an equality. -/
theorem select_mask (A : IVec S2048x1 32) (e : BitVec 32) (x y : FVec Ideal S2048x1024 .f32) (i : Fin 2048) (d : Fin 1024) :
    select (mask A e) x y (ix2 i d) = if A (ix2 i 0) = e then x (ix2 i d) else y (ix2 i d) :=
  if_congr (mask_apply A e i d) rfl rfl

theorem val_apply (X : FVec Ideal S2048x1024 .f32) (A : IVec S2048x1 32) (W1 : FVec Ideal S4x1024x2048 .f32) (W2 : FVec Ideal S4x2048x1024 .f32)
    (i : Fin 2048) (e : Fin 4) (he : A (ix2 i 0) = BitVec.ofNat 32 e.val) (d : Fin 1024) :
    val X A W1 W2 (ix2 i d) = ffn (fun t => X (ix2 i t)) (fun t j => W1 (ix3 e t j)) (fun j d => W2 (ix3 e j d)) d := by
  unfold val
  rw [select_mask, select_mask, select_mask, select_mask, he]
  fin_cases e
  · rw [if_neg (by decide), if_neg (by decide), if_neg (by decide), if_pos (by decide)]
    exact layers_apply X W1 W2 0 _ _ i d
  · rw [if_neg (by decide), if_neg (by decide), if_pos (by decide)]
    exact layers_apply X W1 W2 1 _ _ i d
  · rw [if_neg (by decide), if_pos (by decide)]
    exact layers_apply X W1 W2 2 _ _ i d
  · rw [if_pos (by decide)]
    exact layers_apply X W1 W2 3 _ _ i d

open Idealize.SL.Sem Idealize.ShloMosaic.TcCoe in
/-- The reference's run, at its result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = val (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => h c) (Cert.ReferenceIdeal.Value.run (F := Ideal) m ρ)

end Cert.MoE.Ref
-- ==== Proof.Fits.lean ====
/-
What the stated precondition says of a device's assignments: each is an expert's number, and no expert has more than the
capacity.
-/
module

public import proofs.«01_k».proof.Proof.Gen.Pre_fits_KernelIdeal
public import Idealize.ShloMosaic.PureOps.Ideal.Laws
public import Idealize.ShloMosaic.Lib.ValueIdxCore
public import Idealize.ShloMosaic.Lib.ReduceAll
public import Idealize.ShloMosaic.Lib.Affine
public import Idealize.ShloMosaic.Lib.StableHlo.Predicate
public import Idealize.ShloMosaic.Lib.Pipeline.Value

@[expose] public section

noncomputable section

namespace Cert.MoE

open Cert.Pre_fits_KernelIdeal
open Idealize.ShloMosaic Idealize.ShloMosaic.ValueIdx

/-- A word between zero and three, signed, is a natural below four. -/
theorem below_four (x : BitVec 32) (h1 : IntOp.cmpi .sge x 0#32 = 1#1) (h2 : IntOp.cmpi .slt x 4#32 = 1#1) : x.toNat < 4 := by
  have a1 : (0#32 : BitVec 32).sle x = true := by
    by_contra h
    have h' : (0#32 : BitVec 32).sle x = false := by simpa using h
    have h3 : BitVec.ofBool ((0#32 : BitVec 32).sle x) = 1#1 := h1
    rw [h'] at h3; exact absurd h3 (by decide)
  have a2 : x.slt 4#32 = true := by
    by_contra h
    have h' : x.slt 4#32 = false := by simpa using h
    have h3 : BitVec.ofBool (x.slt 4#32) = 1#1 := h2
    rw [h'] at h3; exact absurd h3 (by decide)
  rw [BitVec.sle_iff_toInt_le] at a1
  rw [BitVec.slt_iff_toInt_lt] at a2
  rw [show (0#32 : BitVec 32).toInt = 0 from rfl] at a1
  rw [show (4#32 : BitVec 32).toInt = 4 from rfl] at a2
  have := x.isLt
  rw [BitVec.toInt_eq_toNat_cond] at a1 a2
  split at a1 <;> split at a2 <;> omega

/-- A word at most 288, signed, that is below two to the thirty-first, is a natural at most 288. -/
theorem at_most (x : BitVec 32) (hx : x.toNat < 2 ^ 31) (h : IntOp.cmpi .sle x 288#32 = 1#1) : x.toNat ≤ 288 := by
  have a1 : x.sle 288#32 = true := by
    by_contra h'
    have h' : x.sle 288#32 = false := by simpa using h'
    have h3 : BitVec.ofBool (x.sle 288#32) = 1#1 := h
    rw [h'] at h3; exact absurd h3 (by decide)
  rw [BitVec.sle_iff_toInt_le, show (288#32 : BitVec 32).toInt = 288 from rfl, BitVec.toInt_eq_toNat_cond] at a1
  split at a1 <;> omega

/-- The precondition, read. -/
theorem fits_read (X : FVec Ideal S1024x1024 .f32) (A : IVec S1024x1 32) (W : FVec Ideal S2x1024x2048 .f32) (V : FVec Ideal S2x2048x1024 .f32)
    (h : fn (F := Ideal) X A W V = fun _ => 1#1) :
    ∃ α : Fin 1024 → Fin 4, (∀ i, A (ix2 i 0) = BitVec.ofNat 32 (α i).val) ∧ ∀ e, (Finset.univ.filter fun j : Fin 1024 => α j = e).card ≤ 288 := by
  have h0 : fn (F := Ideal) X A W V ix0 = 1#1 := by rw [h]
  unfold fn at h0
  obtain ⟨ha, hb⟩ := IntOp.andi_eq_one.1 h0
  haveI : Subsingleton S_.Idx := ⟨fun a b => funext fun x => x.elim0⟩
  have hA : ∀ i : Fin 1024, (A (ix2 i 0)).toNat < 4 := fun i => by
    have h1 := Host.reduce_andi_all _ _ _ _ _ ha (ix2 i 0)
    obtain ⟨h2, h3⟩ := IntOp.andi_eq_one.1 h1
    exact below_four _ h2 h3
  refine ⟨fun i => ⟨(A (ix2 i 0)).toNat, hA i⟩, fun i => by simp, fun e => ?_⟩
  have h1 := Host.reduce_andi_all _ _ _ _ _ hb (ix1 e)
  have hc := StableHlo.Predicate.toNat_reduce_count_rows (n := 1024) (m := 4) (by decide)
    (cmpi .eq (broadcastInDim S1024x4 ![0, 1] Facts.bcast_S1024x1_S1024x4_0_1 A)
      (broadcastInDim S1024x4 ![0, 1] Facts.bcast_S1x4_S1024x4_0_1 (broadcastInDim S1x4 ![1] Facts.bcast_S4_S1x4_1 (iotaInDim S4 32 0))))
    Facts.natLt_1_32 Facts.reducesTo_S1024x4_S4_d0 Facts.h_S_ (ix1 e)
  have hle := at_most _ (by
    refine lt_of_eq_of_lt hc (lt_of_le_of_lt (Finset.card_le_univ _) (by simp))) h1
  rw [hc] at hle
  refine le_trans (Finset.card_le_card fun j hj => ?_) hle
  obtain ⟨-, hj⟩ := Finset.mem_filter.1 hj
  refine Finset.mem_filter.2 ⟨Finset.mem_univ _, ?_⟩
  have e1 : broadcastInDim S1024x4 ![0, 1] Facts.bcast_S1024x1_S1024x4_0_1 A (StableHlo.Predicate.ij j e) = A (ix2 j 0) :=
    broadcastInDim_apply _ _ _ _ _ fun a => match a with | ⟨0, _⟩ => rfl | ⟨1, _⟩ => rfl
  have e2 : broadcastInDim S1024x4 ![0, 1] Facts.bcast_S1x4_S1024x4_0_1 (broadcastInDim S1x4 ![1] Facts.bcast_S4_S1x4_1 (iotaInDim S4 32 0)) (StableHlo.Predicate.ij j e)
      = BitVec.ofNat 32 e.val :=
    (broadcastInDim_apply _ _ _ _ (ix2 (0 : Fin 1) e) fun a => match a with | ⟨0, _⟩ => rfl | ⟨1, _⟩ => rfl).trans
      (broadcastInDim_apply _ _ _ _ (ix1 e) fun a => match a with | ⟨0, _⟩ => rfl)
  show BitVec.ofBool (_ == _) = 1#1
  rw [show ((ix1 e : S4.Idx) 0) = e from rfl, e1, e2, ← congrArg Fin.val hj]
  simp

end Cert.MoE
-- ==== Proof.Algebraic.lean ====
/-
The value claim: on arrays cut over the devices, the kernel's result on each device is its block of the reference's.
-/
module

public import proofs.«01_k».proof.Defs
public import proofs.«01_k».proof.Proof.Out
public import proofs.«01_k».proof.Proof.Ref
public import proofs.«01_k».proof.Proof.Fits
public import proofs.«01_k».proof.Proof.Launch

@[expose] public section

noncomputable section

namespace Cert.MoE

open Cert.KernelIdeal Cert.KernelIdeal.Gen
open Idealize.ShloMosaic Idealize.ShloMosaic.ValueIdx
open Idealize.ShloMosaic.TcCoe Idealize.SL.Sem
open scoped BigOperators

/-! ## The arrays' blocks at an index -/

theorem mesh0 (c : Dev nD) : Layout.meshLin [2, 4, 4] c.val [0] = (px c).val := by revert c; decide

/-- A device's row of a cut array is a row of the whole one. -/
def row (c : Dev nD) (i : Fin 1024) : Fin 2048 := ⟨(px c).val * 1024 + i.val, by have := (px c).isLt; omega⟩

theorem block_rows {V : Type} (k : ℕ) (v : (⟨2, ![2048, k]⟩ : Shape).Idx → V) (c : Dev nD)
    (h : Layout.TilesN ⟨2, ![1024, k]⟩ ⟨2, ![2048, k]⟩ fun b => Layout.cutSize [2, 4, 4] ((![[0], []] : Fin 2 → List ℕ) b)) (i : Fin 1024) (d : Fin k) :
    Layout.blockN ⟨2, ![1024, k]⟩ ⟨2, ![2048, k]⟩ (Layout.meshBlock [2, 4, 4] ![[0], []] c) v h (ix2 i d) = v (ix2 (row c i) d) := by
  refine congrArg v (funext fun a => Fin.ext ?_)
  match a with
  | ⟨0, _⟩ => exact congrArg (fun n => n * 1024 + i.val) (mesh0 c)
  | ⟨1, _⟩ => show 0 * k + d.val = d.val; omega

theorem block_stack {V : Type} (p q : ℕ) (v : (⟨3, ![4, p, q]⟩ : Shape).Idx → V) (c : Dev nD)
    (h : Layout.TilesN ⟨3, ![2, p, q]⟩ ⟨3, ![4, p, q]⟩ fun b => Layout.cutSize [2, 4, 4] ((![[0], [], []] : Fin 3 → List ℕ) b)) (l : Fin 2) (t : Fin p) (j : Fin q) :
    Layout.blockN ⟨3, ![2, p, q]⟩ ⟨3, ![4, p, q]⟩ (Layout.meshBlock [2, 4, 4] ![[0], [], []] c) v h (ix3 l t j) = v (ix3 (expert c l) t j) := by
  refine congrArg v (funext fun a => Fin.ext ?_)
  match a with
  | ⟨0, _⟩ =>
    refine (congrArg (fun n => n * 2 + l.val) (mesh0 c)).trans ?_
    show (px c).val * 2 + l.val = 2 * (px c).val + l.val
    omega
  | ⟨1, _⟩ => show 0 * p + t.val = t.val; omega
  | ⟨2, _⟩ => show 0 * q + j.val = j.val; omega

/-! ## A device's weights -/

section Weights
variable (m : (ℓ : Loc nD τ sig) → Buf (Elt Ideal) ℓ) (c : Dev nD)

theorem w1At0_eq (t : Fin 1024) (j : Fin 2048) : w1At0 m c (ix2 t j) = m ((c : Thread nD τ).loc main_arg2) (ix3 (0 : Fin 2) t j) := by
  refine (shapeCast_1ab_ab_apply (a := 1024) (b := 2048) (g1M.view.readAt (Elt Ideal) (Rect.unit (s := S2x1024x2048) ![0, 0, 0] S1x1024x2048.size inb_S2x1024x2048_S1x1024x2048_0_0_0).toLoadRect (m ((c : Thread nD τ).loc main_arg2)))
    (by decide) t j).trans ?_
  refine congrArg (m ((c : Thread nD τ).loc main_arg2)) (funext fun a => Fin.ext ?_)
  match a with
  | ⟨0, _⟩ => rfl
  | ⟨1, _⟩ => show 0 + 1 * t.val = t.val; omega
  | ⟨2, _⟩ => show 0 + 1 * j.val = j.val; omega
theorem w1At1_eq (t : Fin 1024) (j : Fin 2048) : w1At1 m c (ix2 t j) = m ((c : Thread nD τ).loc main_arg2) (ix3 (1 : Fin 2) t j) := by
  refine (shapeCast_1ab_ab_apply (a := 1024) (b := 2048) (g1M.view.readAt (Elt Ideal) (Rect.unit (s := S2x1024x2048) ![1, 0, 0] S1x1024x2048.size inb_S2x1024x2048_S1x1024x2048_1_0_0).toLoadRect (m ((c : Thread nD τ).loc main_arg2)))
    (by decide) t j).trans ?_
  refine congrArg (m ((c : Thread nD τ).loc main_arg2)) (funext fun a => Fin.ext ?_)
  match a with
  | ⟨0, _⟩ => rfl
  | ⟨1, _⟩ => show 0 + 1 * t.val = t.val; omega
  | ⟨2, _⟩ => show 0 + 1 * j.val = j.val; omega
theorem w2At0_eq (t : Fin 2048) (j : Fin 1024) : w2At0 m c (ix2 t j) = m ((c : Thread nD τ).loc main_arg3) (ix3 (0 : Fin 2) t j) := by
  refine (shapeCast_1ab_ab_apply (a := 2048) (b := 1024) (g2M.view.readAt (Elt Ideal) (Rect.unit (s := S2x2048x1024) ![0, 0, 0] S1x2048x1024.size inb_S2x2048x1024_S1x2048x1024_0_0_0).toLoadRect (m ((c : Thread nD τ).loc main_arg3)))
    (by decide) t j).trans ?_
  refine congrArg (m ((c : Thread nD τ).loc main_arg3)) (funext fun a => Fin.ext ?_)
  match a with
  | ⟨0, _⟩ => rfl
  | ⟨1, _⟩ => show 0 + 1 * t.val = t.val; omega
  | ⟨2, _⟩ => show 0 + 1 * j.val = j.val; omega
theorem w2At1_eq (t : Fin 2048) (j : Fin 1024) : w2At1 m c (ix2 t j) = m ((c : Thread nD τ).loc main_arg3) (ix3 (1 : Fin 2) t j) := by
  refine (shapeCast_1ab_ab_apply (a := 2048) (b := 1024) (g2M.view.readAt (Elt Ideal) (Rect.unit (s := S2x2048x1024) ![1, 0, 0] S1x2048x1024.size inb_S2x2048x1024_S1x2048x1024_1_0_0).toLoadRect (m ((c : Thread nD τ).loc main_arg3)))
    (by decide) t j).trans ?_
  refine congrArg (m ((c : Thread nD τ).loc main_arg3)) (funext fun a => Fin.ext ?_)
  match a with
  | ⟨0, _⟩ => rfl
  | ⟨1, _⟩ => show 0 + 1 * t.val = t.val; omega
  | ⟨2, _⟩ => show 0 + 1 * j.val = j.val; omega

end Weights

/-- The value claim. -/
theorem algebraic : Cert.algebraic_KernelIdeal_ReferenceIdeal_pre_fits_KernelIdeal := by
  intro m g m' g' hpre hin
  have hf := fun c => fits_read _ _ _ _ (hpre c)
  choose α hasg hcap using hf
  have R : Reads m α (fun e t j => m' (((0 : Dev Cert.ReferenceIdeal.nD).tc : Thread Cert.ReferenceIdeal.nD Cert.ReferenceIdeal.τ).loc Cert.ReferenceIdeal.main_arg2) (ix3 e t j))
      (fun e t j => m' (((0 : Dev Cert.ReferenceIdeal.nD).tc : Thread Cert.ReferenceIdeal.nD Cert.ReferenceIdeal.τ).loc Cert.ReferenceIdeal.main_arg3) (ix3 e t j)) :=
    { asg := fun c i => (congrFun (aAt_eq m c) _).trans (hasg c i)
      cap := hcap
      w10 := fun c t j => (w1At0_eq m c t j).trans ((congrFun (hin c).2.2.1 _).trans (block_stack 1024 2048 _ c _ 0 t j))
      w11 := fun c t j => (w1At1_eq m c t j).trans ((congrFun (hin c).2.2.1 _).trans (block_stack 1024 2048 _ c _ 1 t j))
      w20 := fun c t j => (w2At0_eq m c t j).trans ((congrFun (hin c).2.2.2 _).trans (block_stack 2048 1024 _ c _ 0 t j))
      w21 := fun c t j => (w2At1_eq m c t j).trans ((congrFun (hin c).2.2.2 _).trans (block_stack 2048 1024 _ c _ 1 t j)) }
  refine ⟨Ref.val (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_,
    (θ_run Cert.ReferenceIdeal.defs _ _).mono (fun r h => h 0) (Ref.run m' g')⟩
  refine (θ_run Cert.KernelIdeal.defs _ _).mono (fun r h c => ⟨((h.1 c).1).trans ?_, (h.1 c).2⟩) (run_main (F := Ideal) m g)
  refine funext fun (x : (⟨2, ![1024, 1024]⟩ : Shape).Idx) => ?_
  obtain ⟨i, d, rfl⟩ : ∃ (i d : Fin 1024), x = ix2 i d := ⟨x 0, x 1, eq_ix2 x⟩
  refine (out_apply R c i d).trans (Eq.trans ?_ (block_rows 1024 _ c _ i d).symm)
  have ha : m' (((0 : Dev Cert.ReferenceIdeal.nD).tc : Thread Cert.ReferenceIdeal.nD Cert.ReferenceIdeal.τ).loc Cert.ReferenceIdeal.main_arg1) (ix2 (row c i) (0 : Fin 1))
      = BitVec.ofNat 32 (α c i).val :=
    ((congrFun (hin c).2.1 (ix2 i (0 : Fin 1))).trans (block_rows 1 _ c _ i 0)).symm.trans (hasg c i)
  refine Eq.trans ?_ (Ref.val_apply _ _ _ _ (row c i) (α c i) ha d).symm
  refine congrArg (fun x => ffn x _ _ d) (funext fun t => ?_)
  exact (congrFun (hin c).1 (ix2 i t)).trans (block_rows 1024 _ c _ i t)

end Cert.MoE
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal
public import proofs.«01_k».proof.Proof.Launch
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frame over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.MoE.run_main (F := F) m ρ)

/-- The two printings of the kernel are of one text: their bodies' tables agree, label by label. -/
theorem bodies_eq {F : FTy → Type} [FloatOps F] : Cert.Kernel.defs₀ (F := F) = Cert.KernelIdeal.defs₀ (F := F) := by
  unfold Cert.Kernel.defs₀ Cert.KernelIdeal.defs₀
  congr 1
  funext p a
  match p, a with
  | 0, (t, s) => rfl
  | ⟨_ + 1, h⟩, _ => exact absurd h (Nat.not_lt.2 (Nat.le_add_left _ _))
theorem defs_eq {F : FTy → Type} [FloatOps F] : Cert.Kernel.defs (F := F) = Cert.KernelIdeal.defs (F := F) :=
  congrArg (Pipeline.defs (Cert.KernelIdeal.pcfgs (F := F))) bodies_eq

theorem frame_kernel : Cert.quiescent_Kernel := fun m ρ _ => by
  have h := frame_any (F := Bits) m ρ
  rw [← defs_eq] at h
  exact h

theorem frame_ideal : Cert.quiescent_KernelIdeal := fun m ρ _ => frame_any (F := Ideal) m ρ

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_fits_KernelIdeal.Gen.facts, Cert.Pre_fits_ReferenceIdeal.Gen.facts,
  frame_kernel, frame_ideal, fun m ρ _ => frame_any (F := Ideal) m ρ, frame_ref, fun m ρ _ => frame_ref m ρ trivial, trivial,
  Cert.MoE.algebraic⟩

end Cert.Proof

end
